-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_experts [hPre_distinct_experts : Cert.Pre_distinct_experts.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_experts [hPre_distinct_experts : Cert.Pre_distinct_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_distinct_experts [hKernelIdeal : Cert.KernelIdeal.Facts] [hPre_distinct_experts : Cert.Pre_distinct_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_experts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_distinct_experts [hReferenceIdeal : Cert.ReferenceIdeal.Facts] [hPre_distinct_experts : Cert.Pre_distinct_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_distinct_experts [hKernelIdeal : Cert.KernelIdeal.Facts] [hReferenceIdeal : Cert.ReferenceIdeal.Facts] [hPre_distinct_experts : Cert.Pre_distinct_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_experts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_v56) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_distinct_experts : Cert.Pre_distinct_experts.Facts),
    quiescent_Kernel (hKernel := hKernel)
    ∧ quiescent_KernelIdeal (hKernelIdeal := hKernelIdeal)
    ∧ quiescent_KernelIdeal_pre_distinct_experts (hKernelIdeal := hKernelIdeal) (hPre_distinct_experts := hPre_distinct_experts)
    ∧ quiescent_ReferenceIdeal (hReferenceIdeal := hReferenceIdeal)
    ∧ quiescent_ReferenceIdeal_pre_distinct_experts (hReferenceIdeal := hReferenceIdeal) (hPre_distinct_experts := hPre_distinct_experts)
    ∧ preserves_Kernel_KernelIdeal
    ∧ algebraic_KernelIdeal_ReferenceIdeal_pre_distinct_experts (hKernelIdeal := hKernelIdeal) (hReferenceIdeal := hReferenceIdeal) (hPre_distinct_experts := hPre_distinct_experts)
-- ==== Pre_distinct_experts.lean ====
abbrev S3x640x12288 : Shape := ⟨3, ![3, 640, 12288]⟩
abbrev S3x640 : Shape := ⟨2, ![3, 640]⟩
abbrev S12288x160 : Shape := ⟨2, ![12288, 160]⟩
abbrev S3x640x6 : Shape := ⟨3, ![3, 640, 6]⟩
abbrev S3x640x6x6 : Shape := ⟨4, ![3, 640, 6, 6]⟩

class Facts : Prop where
  bcast_S3x640x6_S3x640x6x6_0_1_2 : S3x640x6.BroadcastsInDim S3x640x6x6 (![0, 1, 2] : Fin 3 → Fin S3x640x6x6.rank)
  bcast_S3x640x6_S3x640x6x6_0_1_3 : S3x640x6.BroadcastsInDim S3x640x6x6 (![0, 1, 3] : Fin 3 → Fin S3x640x6x6.rank)

variable [Facts]

def fn {F : FTy → Type} [FloatOps F] (main_arg0 : FVec F S3x640x12288 .fp8e4m3) (main_arg1 : FVec F S3x640 .f32) (main_arg2 : FVec F S12288x160 .bf16) (main_arg3 : IVec S3x640x6 32) (main_arg4 : FVec F S3x640x6 .f32) : IVec S3x640x6x6 1 :=
  let main_v0 : IVec S3x640x6x6 32 := iotaInDim S3x640x6x6 32 2
  let main_v1 : IVec S3x640x6x6 32 := iotaInDim S3x640x6x6 32 3
  let main_v2 : IVec S3x640x6x6 32 := broadcastInDim S3x640x6x6 ![0, 1, 2] bcast_S3x640x6_S3x640x6x6_0_1_2 main_arg3
  let main_v3 : IVec S3x640x6x6 32 := broadcastInDim S3x640x6x6 ![0, 1, 3] bcast_S3x640x6_S3x640x6x6_0_1_3 main_arg3
  let main_v4 : IVec S3x640x6x6 1 := cmpi .eq main_v0 main_v1
  let main_v5 : IVec S3x640x6x6 1 := cmpi .ne main_v2 main_v3
  let main_v6 : IVec S3x640x6x6 1 := ori main_v4 main_v5
  main_v6
-- ==== Kernel.lean ====
abbrev S3x640x12288 : Shape := ⟨3, ![3, 640, 12288]⟩
abbrev S3x640 : Shape := ⟨2, ![3, 640]⟩
abbrev S12288x160 : Shape := ⟨2, ![12288, 160]⟩
abbrev S3x640x6 : Shape := ⟨3, ![3, 640, 6]⟩
abbrev S160x12288 : Shape := ⟨2, ![160, 12288]⟩
abbrev S3x6x640 : Shape := ⟨3, ![3, 6, 640]⟩
abbrev S3x1x640 : Shape := ⟨3, ![3, 1, 640]⟩
abbrev S1x160 : Shape := ⟨2, ![1, 160]⟩
abbrev S3x160x640 : Shape := ⟨3, ![3, 160, 640]⟩
abbrev S1x640x12288 : Shape := ⟨3, ![1, 640, 12288]⟩
abbrev S1x1x640 : Shape := ⟨3, ![1, 1, 640]⟩
abbrev S1x6x640 : Shape := ⟨3, ![1, 6, 640]⟩
abbrev S1x160x640 : Shape := ⟨3, ![1, 160, 640]⟩
abbrev S160x1 : Shape := ⟨2, ![160, 1]⟩
abbrev S160x128 : Shape := ⟨2, ![160, 128]⟩
abbrev S1x1x128 : Shape := ⟨3, ![1, 1, 128]⟩
abbrev S1x128 : Shape := ⟨2, ![1, 128]⟩
abbrev S160 : Shape := ⟨1, ![160]⟩
abbrev S640x12288 : Shape := ⟨2, ![640, 12288]⟩
abbrev S160x640 : Shape := ⟨2, ![160, 640]⟩
abbrev S128 : Shape := ⟨1, ![128]⟩
abbrev S1x160x128 : Shape := ⟨3, ![1, 160, 128]⟩
abbrev S128x160 : Shape := ⟨2, ![128, 160]⟩
abbrev S3x640x160 : Shape := ⟨3, ![3, 640, 160]⟩

abbrev nBuf : Space → Nat
  | .hbm => 19
  | .vmem => 21
  | .smem => 0
  | _ => 0

abbrev bufTy : (tb : Table) → Fin (tcTables nBuf tb) → BufTy
  | .hbm, ⟨0, _⟩ => ⟨S3x640x12288, .fp8e4m3⟩
  | .hbm, ⟨1, _⟩ => ⟨S3x640, .f32⟩
  | .hbm, ⟨2, _⟩ => ⟨S12288x160, .bf16⟩
  | .hbm, ⟨3, _⟩ => ⟨S3x640x6, .i32⟩
  | .hbm, ⟨4, _⟩ => ⟨S3x640x6, .f32⟩
  | .hbm, ⟨5, _⟩ => ⟨S160x12288, .bf16⟩
  | .hbm, ⟨6, _⟩ => ⟨S3x6x640, .i32⟩
  | .hbm, ⟨7, _⟩ => ⟨S3x6x640, .f32⟩
  | .hbm, ⟨8, _⟩ => ⟨S3x1x640, .f32⟩
  | .hbm, ⟨9, _⟩ => ⟨S3x1x640, .f32⟩
  | .hbm, ⟨10, _⟩ => ⟨S3x1x640, .f32⟩
  | .hbm, ⟨11, _⟩ => ⟨S1x160, .f32⟩
  | .hbm, ⟨12, _⟩ => ⟨S3x1x640, .f32⟩
  | .hbm, ⟨13, _⟩ => ⟨S3x160x640, .f32⟩
  | .hbm, ⟨14, _⟩ => ⟨S3x640, .f32⟩
  | .hbm, ⟨15, _⟩ => ⟨S3x640, .f32⟩
  | .hbm, ⟨16, _⟩ => ⟨S160, .f32⟩
  | .hbm, ⟨17, _⟩ => ⟨S3x640, .f32⟩
  | .hbm, ⟨18, _⟩ => ⟨S3x640x160, .f32⟩
  | .local _ .vmem, ⟨0, _⟩ => ⟨S1x640x12288, .fp8e4m3⟩
  | .local _ .vmem, ⟨1, _⟩ => ⟨S1x640x12288, .fp8e4m3⟩
  | .local _ .vmem, ⟨2, _⟩ => ⟨S1x1x640, .f32⟩
  | .local _ .vmem, ⟨3, _⟩ => ⟨S1x1x640, .f32⟩
  | .local _ .vmem, ⟨4, _⟩ => ⟨S160x12288, .bf16⟩
  | .local _ .vmem, ⟨5, _⟩ => ⟨S3x6x640, .i32⟩
  | .local _ .vmem, ⟨6, _⟩ => ⟨S1x6x640, .i32⟩
  | .local _ .vmem, ⟨7, _⟩ => ⟨S1x6x640, .i32⟩
  | .local _ .vmem, ⟨8, _⟩ => ⟨S1x6x640, .f32⟩
  | .local _ .vmem, ⟨9, _⟩ => ⟨S1x6x640, .f32⟩
  | .local _ .vmem, ⟨10, _⟩ => ⟨S1x1x640, .f32⟩
  | .local _ .vmem, ⟨11, _⟩ => ⟨S1x1x640, .f32⟩
  | .local _ .vmem, ⟨12, _⟩ => ⟨S1x1x640, .f32⟩
  | .local _ .vmem, ⟨13, _⟩ => ⟨S1x1x640, .f32⟩
  | .local _ .vmem, ⟨14, _⟩ => ⟨S1x160, .f32⟩
  | .local _ .vmem, ⟨15, _⟩ => ⟨S1x1x640, .f32⟩
  | .local _ .vmem, ⟨16, _⟩ => ⟨S1x1x640, .f32⟩
  | .local _ .vmem, ⟨17, _⟩ => ⟨S1x160x640, .f32⟩
  | .local _ .vmem, ⟨18, _⟩ => ⟨S1x160x640, .f32⟩
  | .local _ .vmem, ⟨19, _⟩ => ⟨S160x1, .f32⟩
  | .local _ .vmem, ⟨20, _⟩ => ⟨S160x128, .f32⟩
  | _, _ => ⟨S3x640x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![3], ![false]⟩

def k0_cond2 (i : grid0.Coords) : BitVec 1 :=
  let arg0 : BitVec 32 := BitVec.ofNat 32 (i 0).val
  let c2_i32 : BitVec 32 := 2#32
  let v594 : BitVec 1 := Scalar.cmpi .eq arg0 c2_i32
  let v595 : BitVec 32 := Scalar.extui v594
  let c0_i32_317 : BitVec 32 := 0#32
  let v596 : BitVec 1 := Scalar.cmpi .ne v595 c0_i32_317
  v596

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x640x12288 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S160x12288 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x6x640 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6x640 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x160 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x160x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S3x640x12288 : Shape := ⟨3, ![3, 640, 12288]⟩
abbrev S3x640 : Shape := ⟨2, ![3, 640]⟩
abbrev S12288x160 : Shape := ⟨2, ![12288, 160]⟩
abbrev S3x640x6 : Shape := ⟨3, ![3, 640, 6]⟩
abbrev S3x640x6x1 : Shape := ⟨4, ![3, 640, 6, 1]⟩
abbrev S160 : Shape := ⟨1, ![160]⟩
abbrev S1x1x1x160 : Shape := ⟨4, ![1, 1, 1, 160]⟩
abbrev S3x640x6x160 : Shape := ⟨4, ![3, 640, 6, 160]⟩
abbrev S_ : Shape := ⟨0, ![]⟩
abbrev S3x640x160 : Shape := ⟨3, ![3, 640, 160]⟩
abbrev S3x640x1 : Shape := ⟨3, ![3, 640, 1]⟩
abbrev S1x1x160 : Shape := ⟨3, ![1, 1, 160]⟩

abbrev nBuf : Space → Nat
  | .hbm => 78
  | .vmem => 2
  | .smem => 0
  | _ => 0

abbrev bufTy : (tb : Table) → Fin (tcTables nBuf tb) → BufTy
  | .hbm, ⟨0, _⟩ => ⟨S3x640x12288, .fp8e4m3⟩
  | .hbm, ⟨1, _⟩ => ⟨S3x640, .f32⟩
  | .hbm, ⟨2, _⟩ => ⟨S12288x160, .bf16⟩
  | .hbm, ⟨3, _⟩ => ⟨S3x640x6, .i32⟩
  | .hbm, ⟨4, _⟩ => ⟨S3x640x6, .f32⟩
  | .hbm, ⟨5, _⟩ => ⟨S3x640x12288, .bf16⟩
  | .hbm, ⟨6, _⟩ => ⟨S3x640x6x1, .i32⟩
  | .hbm, ⟨7, _⟩ => ⟨S160, .i32⟩
  | .hbm, ⟨8, _⟩ => ⟨S1x1x1x160, .i32⟩
  | .hbm, ⟨9, _⟩ => ⟨S3x640x6x160, .i32⟩
  | .hbm, ⟨10, _⟩ => ⟨S3x640x6x160, .i32⟩
  | .hbm, ⟨11, _⟩ => ⟨S3x640x6x160, .i1⟩
  | .hbm, ⟨12, _⟩ => ⟨S3x640x6x160, .i32⟩
  | .hbm, ⟨13, _⟩ => ⟨S_, .i32⟩
  | .hbm, ⟨14, _⟩ => ⟨S160, .i32⟩
  | .hbm, ⟨15, _⟩ => ⟨S160, .f32⟩
  | .hbm, ⟨16, _⟩ => ⟨S_, .f32⟩
  | .hbm, ⟨17, _⟩ => ⟨S160, .f32⟩
  | .hbm, ⟨18, _⟩ => ⟨S160, .f32⟩
  | .hbm, ⟨19, _⟩ => ⟨S3x640x160, .f32⟩
  | .hbm, ⟨20, _⟩ => ⟨S3x640x1, .f32⟩
  | .hbm, ⟨21, _⟩ => ⟨S3x640x160, .f32⟩
  | .hbm, ⟨22, _⟩ => ⟨S3x640x160, .f32⟩
  | .hbm, ⟨23, _⟩ => ⟨S3x640x160, .f32⟩
  | .hbm, ⟨24, _⟩ => ⟨S_, .f32⟩
  | .hbm, ⟨25, _⟩ => ⟨S3x640, .f32⟩
  | .hbm, ⟨26, _⟩ => ⟨S3x640, .f32⟩
  | .hbm, ⟨27, _⟩ => ⟨S3x640x1, .f32⟩
  | .hbm, ⟨28, _⟩ => ⟨S3x640x160, .f32⟩
  | .hbm, ⟨29, _⟩ => ⟨S3x640x160, .f32⟩
  | .hbm, ⟨30, _⟩ => ⟨S3x640x160, .f32⟩
  | .hbm, ⟨31, _⟩ => ⟨S_, .f32⟩
  | .hbm, ⟨32, _⟩ => ⟨S160, .f32⟩
  | .hbm, ⟨33, _⟩ => ⟨S_, .f32⟩
  | .hbm, ⟨34, _⟩ => ⟨S160, .f32⟩
  | .hbm, ⟨35, _⟩ => ⟨S160, .f32⟩
  | .hbm, ⟨36, _⟩ => ⟨S1x1x160, .f32⟩
  | .hbm, ⟨37, _⟩ => ⟨S3x640x160, .f32⟩
  | .hbm, ⟨38, _⟩ => ⟨S3x640x160, .f32⟩
  | .hbm, ⟨39, _⟩ => ⟨S_, .f32⟩
  | .hbm, ⟨40, _⟩ => ⟨S3x640, .f32⟩
  | .hbm, ⟨41, _⟩ => ⟨S_, .f32⟩
  | .hbm, ⟨42, _⟩ => ⟨S3x640, .f32⟩
  | .hbm, ⟨43, _⟩ => ⟨S3x640, .f32⟩
  | .hbm, ⟨44, _⟩ => ⟨S3x640, .f32⟩
  | .hbm, ⟨45, _⟩ => ⟨S_, .f32⟩
  | .hbm, ⟨46, _⟩ => ⟨S3x640, .f32⟩
  | .hbm, ⟨47, _⟩ => ⟨S3x640, .f32⟩
  | .hbm, ⟨48, _⟩ => ⟨S3x640x6x1, .f32⟩
  | .hbm, ⟨49, _⟩ => ⟨S_, .f32⟩
  | .hbm, ⟨50, _⟩ => ⟨S_, .f32⟩
  | .hbm, ⟨51, _⟩ => ⟨S3x640x6x160, .f32⟩
  | .hbm, ⟨52, _⟩ => ⟨S3x640x6x160, .f32⟩
  | .hbm, ⟨53, _⟩ => ⟨S3x640x6x160, .f32⟩
  | .hbm, ⟨54, _⟩ => ⟨S_, .f32⟩
  | .hbm, ⟨55, _⟩ => ⟨S3x640x160, .f32⟩
  | .hbm, ⟨56, _⟩ => ⟨S3x640x160, .f32⟩
  | .hbm, ⟨57, _⟩ => ⟨S_, .f32⟩
  | .hbm, ⟨58, _⟩ => ⟨S3x640, .f32⟩
  | .hbm, ⟨59, _⟩ => ⟨S3x640x1, .f32⟩
  | .hbm, ⟨60, _⟩ => ⟨S1x1x160, .f32⟩
  | .hbm, ⟨61, _⟩ => ⟨S3x640x160, .f32⟩
  | .hbm, ⟨62, _⟩ => ⟨S3x640x160, .f32⟩
  | .hbm, ⟨63, _⟩ => ⟨S3x640x160, .f32⟩
  | .hbm, ⟨64, _⟩ => ⟨S_, .f32⟩
  | .hbm, ⟨65, _⟩ => ⟨S3x640x160, .f32⟩
  | .hbm, ⟨66, _⟩ => ⟨S3x640x160, .f32⟩
  | .hbm, ⟨67, _⟩ => ⟨S3x640x1, .f32⟩
  | .hbm, ⟨68, _⟩ => ⟨S_, .f32⟩
  | .hbm, ⟨69, _⟩ => ⟨S3x640x1, .f32⟩
  | .hbm, ⟨70, _⟩ => ⟨S3x640x1, .f32⟩
  | .hbm, ⟨71, _⟩ => ⟨S3x640x160, .f32⟩
  | .hbm, ⟨72, _⟩ => ⟨S3x640x160, .f32⟩
  | .hbm, ⟨73, _⟩ => ⟨S3x640x1, .f32⟩
  | .hbm, ⟨74, _⟩ => ⟨S3x640x160, .f32⟩
  | .hbm, ⟨75, _⟩ => ⟨S3x640x160, .f32⟩
  | .hbm, ⟨76, _⟩ => ⟨S3x640x160, .f32⟩
  | .hbm, ⟨77, _⟩ => ⟨S3x640x160, .f32⟩
  | .local _ .vmem, ⟨0, _⟩ => ⟨S3x640x12288, .fp8e4m3⟩
  | .local _ .vmem, ⟨1, _⟩ => ⟨S3x640x12288, .bf16⟩
  | _, _ => ⟨S3x640x12288, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3x640x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x12288 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Algebra.lean ====
/- The extended-real facts that the value proof rests on: a softmax written with a shift is the softmax written plainly,
   whatever the logits are; a ladder of selects over distinct keys is a sum. -/
module

public import Idealize.ShloMosaic.PureOps.Ideal
public import Idealize.ShloMosaic.PureOps.Ideal.Laws

@[expose] public section

noncomputable section

namespace Cert.Alg

open Idealize.ShloMosaic
open scoped BigOperators

/-- The shift a stable softmax subtracts: the maximum when it is finite, else zero. -/
def shift (M : EReal) : EReal := if max M (-M) < ⊤ then M else 0

/-- An exponential is not negative. -/
theorem exp_nonneg (x : EReal) : 0 ≤ Ideal.exp x := by
  induction x with
  | bot => exact le_refl _
  | top => exact le_top
  | coe r => exact EReal.coe_nonneg.mpr (Real.exp_pos r).le

/-- The exponential of what is not `⊤` is a real number. -/
theorem exp_real {x : EReal} (hx : x ≠ ⊤) : ∃ r : ℝ, 0 ≤ r ∧ Ideal.exp x = (r : EReal) ∧ (x ≠ ⊥ → 0 < r) := by
  induction x with
  | bot => exact ⟨0, le_refl _, rfl, fun h => absurd rfl h⟩
  | top => exact absurd rfl hx
  | coe r => exact ⟨Real.exp r, (Real.exp_pos r).le, rfl, fun _ => Real.exp_pos r⟩

/-- Shifting an exponent by a real number multiplies the exponential by a real number. -/
theorem exp_sub_coe {x : EReal} {r m : ℝ} (hx : x ≠ ⊤) (hr : Ideal.exp x = (r : EReal)) :
    Ideal.exp (x - (m : EReal)) = ((r * Real.exp (-m) : ℝ) : EReal) := by
  induction x with
  | bot =>
    have : r = 0 := by
      have : ((0 : ℝ) : EReal) = (r : EReal) := hr
      exact (EReal.coe_injective this).symm
    subst this
    rw [EReal.bot_sub, zero_mul]
    rfl
  | top => exact absurd rfl hx
  | coe y =>
    have hr' : Real.exp y = r := EReal.coe_injective hr
    subst hr'
    rw [← EReal.coe_sub, ← Real.exp_add]
    rfl

/-- A finite sum of reals in the extended reals is the real sum. -/
theorem sum_coe {n : ℕ} (y : Fin n → ℝ) : (∑ e, ((y e : ℝ) : EReal)) = ((∑ e, y e : ℝ) : EReal) := by
  induction (Finset.univ : Finset (Fin n)) using Finset.induction_on with
  | empty => simp
  | insert a s ha ih => rw [Finset.sum_insert ha, Finset.sum_insert ha, ih, EReal.coe_add]

/-- Both halves of the softmax identity: with the shift or without it, the log of the sum of exponentials and each
    exponential over that sum are the same, at every vector of extended reals that is not empty. -/
theorem softmax {n : ℕ} (hn : 0 < n) (z : Fin n → EReal) (M : EReal) (hM : M = Finset.univ.fold max ⊥ z) :
    (shift M + Ideal.log (∑ e, Ideal.exp (z e - shift M)) = Ideal.log (∑ e, Ideal.exp (z e)))
    ∧ ∀ e, Ideal.exp (z e - shift M) * Ideal.div 1 (∑ k, Ideal.exp (z k - shift M))
        = Ideal.exp (z e - Ideal.log (∑ k, Ideal.exp (z k))) := by
  have hsup : M = Finset.univ.sup z := hM
  have hle : ∀ e, z e ≤ M := fun e => hsup ▸ Finset.le_sup (Finset.mem_univ e)
  obtain ⟨e0, -, he0⟩ : ∃ e ∈ (Finset.univ : Finset (Fin n)), Finset.univ.sup z = z e :=
    Finset.exists_mem_eq_sup _ ⟨⟨0, hn⟩, Finset.mem_univ _⟩ z
  have he0 : M = z e0 := hsup.trans he0
  clear hM hsup
  induction M with
  | bot =>
    have hz : ∀ e, z e = ⊥ := fun e => le_bot_iff.mp (hle e)
    have hs : shift ⊥ = 0 := by simp [shift]
    have h0 : Ideal.exp ⊥ = 0 := rfl
    refine ⟨by rw [hs, zero_add]; simp only [sub_zero], fun e => ?_⟩
    rw [hs]
    simp only [hz, EReal.bot_sub, h0, zero_mul]
  | top =>
    have hs : shift ⊤ = 0 := by simp [shift]
    have hsum : (∑ e, Ideal.exp (z e)) = ⊤ := top_le_iff.mp <| by
      have : Ideal.exp (z e0) = ⊤ := by rw [← he0]; rfl
      rw [← this]
      exact Finset.single_le_sum (f := fun e => Ideal.exp (z e)) (fun e _ => exp_nonneg (z e)) (Finset.mem_univ e0)
    have hd : Ideal.div 1 ⊤ = 0 := by simp [Ideal.div]
    have hl : Ideal.log ⊤ = ⊤ := rfl
    refine ⟨by rw [hs, zero_add]; simp only [sub_zero], fun e => ?_⟩
    rw [hs]
    simp only [sub_zero, hsum, hd, hl, mul_zero]
    induction z e with
    | bot => rfl
    | top => rfl
    | coe r => rfl
  | coe m =>
    have hs : shift (m : EReal) = (m : EReal) := by
      have : max (m : EReal) (-(m : EReal)) < ⊤ := by
        rw [← EReal.coe_neg]; exact max_lt (EReal.coe_lt_top _) (EReal.coe_lt_top _)
      simp only [shift, this, if_true]
    have hz : ∀ e, z e ≠ ⊤ := fun e h => by
      have := hle e; rw [h] at this; exact EReal.coe_ne_top m (top_le_iff.mp this)
    choose y hy0 hy hpos using fun e => exp_real (hz e)
    have hsh : ∀ e, Ideal.exp (z e - (m : EReal)) = ((y e * Real.exp (-m) : ℝ) : EReal) :=
      fun e => exp_sub_coe (hz e) (hy e)
    have hY : 0 < ∑ e, y e := by
      have h1 : 0 < y e0 := hpos e0 (by rw [← he0]; exact EReal.coe_ne_bot m)
      exact lt_of_lt_of_le h1 (Finset.single_le_sum (f := y) (fun e _ => hy0 e) (Finset.mem_univ e0))
    have hS : (∑ e, y e * Real.exp (-m)) = (∑ e, y e) * Real.exp (-m) := (Finset.sum_mul _ _ _).symm
    have hSpos : 0 < (∑ e, y e) * Real.exp (-m) := mul_pos hY (Real.exp_pos _)
    have hlogr : ∀ r : ℝ, 0 < r → Ideal.log (r : EReal) = ((Real.log r : ℝ) : EReal) := fun r hr => by
      show (if r ≤ 0 then (⊥ : EReal) else (Real.log r : EReal)) = _
      rw [if_neg (not_le.mpr hr)]
    rw [hs]
    simp only [hsh, hy, sum_coe, hS]
    rw [hlogr _ hY, hlogr _ hSpos]
    refine ⟨?_, fun e => ?_⟩
    · rw [← EReal.coe_add, Real.log_mul hY.ne' (Real.exp_pos _).ne', Real.log_exp]
      congr 1; ring
    · rw [Ideal.div_coe hSpos.ne', exp_sub_coe (hz e) (hy e), one_mul, ← EReal.coe_mul]
      congr 1
      rw [Real.exp_neg (Real.log _), Real.exp_log hY]
      field_simp

/-- A ladder of selects whose keys are distinct (the last match wins) is the sum of the values whose key matches. -/
theorem ladder {κ : Type} [DecidableEq κ] (a : Fin 6 → κ) (v : Fin 6 → EReal) (e : κ) (h : ∀ i j, i = j ∨ a i ≠ a j) :
    (if e = a 5 then v 5 else if e = a 4 then v 4 else if e = a 3 then v 3 else if e = a 2 then v 2
      else if e = a 1 then v 1 else if e = a 0 then v 0 else 0)
      = ∑ k, if e = a k then v k else 0 := by
  by_cases hx : ∃ k, e = a k
  · obtain ⟨k, hk⟩ := hx
    have hne : ∀ j, j ≠ k → ¬ e = a j := fun j hj he => (h j k).elim hj fun hc => hc (he.symm.trans hk)
    rw [Finset.sum_eq_single k (fun j _ hj => if_neg (hne j hj)) (fun hk => absurd (Finset.mem_univ k) hk), if_pos hk]
    fin_cases k
    all_goals
      simp only [Fin.zero_eta, Fin.mk_one, Fin.reduceFinMk] at hk hne ⊢
      have h0 := hne 0; have h1 := hne 1; have h2 := hne 2; have h3 := hne 3; have h4 := hne 4; have h5 := hne 5
      simp_all
  · have hx : ∀ k, ¬ e = a k := fun k hk => hx ⟨k, hk⟩
    simp [hx]

end Cert.Alg

end
-- ==== Proof.Spec.lean ====
module

public import proofs.«01_k».proof.Proof.Algebra
public import Mathlib.Data.BitVec

@[expose] public section

/-! The router's mathematics for one token: the logits `z` over the 160 experts, the expert loads `f`, the
    six chosen experts `a` and the gradients `v` of their gates. The constants stay the words both programs print. -/

noncomputable section

namespace Cert.Spec

open Idealize.ShloMosaic

/-- The logarithm of the sum of the exponentials of the logits. -/
def lse (z : Fin 160 → EReal) : EReal := Ideal.log (∑ e, Ideal.exp (z e))

/-- The probability of one expert. -/
def p (z : Fin 160 → EReal) (e : Fin 160) : EReal := Ideal.exp (z e - lse z)

/-- The probabilities weighted by the loads. -/
def g (z f : Fin 160 → EReal) : EReal := ∑ e, p z e * f e

/-- The token's term of the load-balancing loss. -/
def aux (z f : Fin 160 → EReal) : EReal := Ideal.ofBits .f32 0x3A5A740E#32 * g z f

/-- The token's term of the z-loss. -/
def zl (z : Fin 160 → EReal) : EReal := Ideal.ofBits .f32 0x350BCF65#32 * (lse z * lse z)

/-- The gates' gradients spread over the experts. -/
def dp (a : Fin 6 → BitVec 32) (v : Fin 6 → EReal) (e : Fin 160) : EReal :=
  ∑ k, if BitVec.ofNat 32 e = a k then v k else 0

/-- The probabilities weighted by the spread gradients. -/
def r (z : Fin 160 → EReal) (a : Fin 6 → BitVec 32) (v : Fin 6 → EReal) : EReal := ∑ e, p z e * dp a v e

/-- The gradient of the token's logit at one expert. -/
def dl (z f : Fin 160 → EReal) (a : Fin 6 → BitVec 32) (v : Fin 6 → EReal) (e : Fin 160) : EReal :=
  p z e * ((Ideal.ofBits .f32 0x3A5A740E#32 * (f e - g z f) + Ideal.ofBits .f32 0x358BCF65#32 * lse z)
    + (dp a v e - r z a v))

/-- How many of the choices `a b s k` name the expert, as a 32-bit word. -/
def cnt (a : Fin 3 → Fin 640 → Fin 6 → BitVec 32) (e : Fin 160) : BitVec 32 :=
  ∑ b, ∑ s, ∑ k, if BitVec.ofNat 32 e = a b s k then 1 else 0

/-- The share of the choices that name the expert. -/
def load (a : Fin 3 → Fin 640 → Fin 6 → BitVec 32) (e : Fin 160) : EReal :=
  Ideal.div (((cnt a e).toInt : ℝ) : EReal) (Ideal.ofBits .f32 0x46340000#32)

end Cert.Spec
-- ==== Proof.Chunk.lean ====
module

public import proofs.«01_k».proof.Proof.Gen.KernelIdeal.Skeleton
public import Idealize.ShloMosaic.Lib.Pointwise
public import Idealize.ShloMosaic.Lib.Pipeline.ValueKit
public import proofs.«01_k».proof.Proof.Spec

@[expose] public section

/-! One chunk of 128 tokens of the kernel's epilogue, over the logits `z`, the loads `f` and the loaded rows. -/

noncomputable section

namespace Cert.KernelIdeal.Chunk

open Idealize.ShloMosaic Idealize.SL.Sem Gen

variable {F : FTy → Type} [FloatOps F]

/-- The chunk's logits: a slice of the product, each token scaled. -/
def z (off : ℕ) (hs : S160x640.Slices ![0, off] S160x128) (acc : FVec F S160x640 .f32) (sc : Vec F S1x1x128 .f32) :
    FVec F S160x128 .f32 :=
  mulf (extractStridedSlice S160x128 ![0, off] acc hs)
    (broadcastTo S160x128 (shapeCast S1x128 sc shapeCasts_S1x1x128_S1x128) broadcasts_S1x128_S160x128)

/-- The largest logit of each token, or zero where it is infinite. -/
def m (z : FVec F S160x128 .f32) : FVec F S1x128 .f32 :=
  have v : FVec F S1x128 .f32 := shapeCast S1x128
    (multiReduction .maximumf [0] S128 z 0xFF800000#32 reduces_S160x128_S128 (.inl rfl) rfl) shapeCasts_S128_S1x128
  select (cmpf .olt (absf v) (broadcast S1x128 (Scalar.ofBits .f32 0x7F800000#32))) v
    (broadcast S1x128 (Scalar.ofBits .f32 0x00000000#32))

/-- The exponentials of the shifted logits. -/
def ex (z : FVec F S160x128 .f32) : FVec F S160x128 .f32 :=
  exp (subf z (broadcastTo S160x128 (m z) broadcasts_S1x128_S160x128))

/-- Their sum over the experts. -/
def sm (z : FVec F S160x128 .f32) : FVec F S1x128 .f32 :=
  shapeCast S1x128 (multiReduction .add [0] S128 (ex z) 0x00000000#32 reduces_S160x128_S128 (.inl rfl) rfl)
    shapeCasts_S128_S1x128

/-- The log-sum-exp of each token. -/
def lse (z : FVec F S160x128 .f32) : FVec F S1x128 .f32 := addf (m z) (log (sm z))

/-- The probabilities. -/
def p (z : FVec F S160x128 .f32) : FVec F S160x128 .f32 :=
  mulf (ex z) (broadcastTo S160x128 (divf (broadcast S1x128 (Scalar.ofBits .f32 0x3F800000#32)) (sm z))
    broadcasts_S1x128_S160x128)

/-- One step of the gates' ladder: the gradient row `d` where the expert is the row `i`'s, the steps before elsewhere. -/
def step (w : FVec F S160x128 .f32) (i : Vec F S1x1x128 .i32) (d : Vec F S1x1x128 .f32) : FVec F S160x128 .f32 :=
  select (cmpi .eq (iota .tc S160x128 32 [0] iota_S160x128_d0_w32)
      (broadcastTo S160x128 (shapeCast S1x128 i shapeCasts_S1x1x128_S1x128) broadcasts_S1x128_S160x128))
    (broadcastTo S160x128 (shapeCast S1x128 (shapeCast S1x128 d shapeCasts_S1x1x128_S1x128) shapeCasts_S1x128_S1x128)
      broadcasts_S1x128_S160x128) w

/-- The sum over the experts of the probabilities times a weight. -/
def dot (p w : FVec F S160x128 .f32) : FVec F S1x128 .f32 :=
  shapeCast S1x128 (multiReduction .add [0] S128 (mulf p w) 0x00000000#32 reduces_S160x128_S128 (.inl rfl) rfl)
    shapeCasts_S128_S1x128

/-- The loads, the same for every token. -/
def fb (f : Vec F S160x1 .f32) : FVec F S160x128 .f32 := broadcastTo S160x128 f broadcasts_S160x1_S160x128

/-- What the chunk stores of the load-balancing terms. -/
def auxO (f : Vec F S160x1 .f32) (z : FVec F S160x128 .f32) : FVec F S1x1x128 .f32 :=
  shapeCast S1x1x128 (mulf (broadcast S1x128 (Scalar.ofBits .f32 0x3A5A740E#32)) (dot (p z) (fb f)))
    shapeCasts_S1x128_S1x1x128

/-- What the chunk stores of the z-loss terms. -/
def zO (z : FVec F S160x128 .f32) : FVec F S1x1x128 .f32 :=
  shapeCast S1x1x128 (mulf (broadcast S1x128 (Scalar.ofBits .f32 0x350BCF65#32)) (mulf (lse z) (lse z)))
    shapeCasts_S1x128_S1x1x128

/-- What the chunk stores of the log-sum-exp. -/
def lseO (z : FVec F S160x128 .f32) : FVec F S1x1x128 .f32 := shapeCast S1x1x128 (lse z) shapeCasts_S1x128_S1x1x128

/-- What the chunk stores of the logits' gradient, `w` the gates' gradients over the experts. -/
def dlO (f : Vec F S160x1 .f32) (z w : FVec F S160x128 .f32) : FVec F S1x160x128 .f32 :=
  shapeCast S1x160x128
    (mulf (p z) (addf
      (addf (mulf (broadcast S160x128 (Scalar.ofBits .f32 0x3A5A740E#32))
          (subf (fb f) (broadcastTo S160x128 (dot (p z) (fb f)) broadcasts_S1x128_S160x128)))
        (broadcastTo S160x128 (mulf (broadcast S1x128 (Scalar.ofBits .f32 0x358BCF65#32)) (lse z))
          broadcasts_S1x128_S160x128))
      (subf w (broadcastTo S160x128 (dot (p z) w) broadcasts_S1x128_S160x128))))
    shapeCasts_S160x128_S1x160x128

/-- The six steps of the ladder from zero. -/
def gates (i0 : Vec F S1x1x128 .i32) (d0 : Vec F S1x1x128 .f32) (i1 : Vec F S1x1x128 .i32) (d1 : Vec F S1x1x128 .f32)
    (i2 : Vec F S1x1x128 .i32) (d2 : Vec F S1x1x128 .f32) (i3 : Vec F S1x1x128 .i32) (d3 : Vec F S1x1x128 .f32)
    (i4 : Vec F S1x1x128 .i32) (d4 : Vec F S1x1x128 .f32) (i5 : Vec F S1x1x128 .i32) (d5 : Vec F S1x1x128 .f32) :
    FVec F S160x128 .f32 :=
  step (step (step (step (step (step (broadcast S160x128 (Scalar.ofBits .f32 0x00000000#32)) i0 d0) i1 d1) i2 d2) i3 d3) i4 d4) i5 d5

/-! ### Read at an index, over the extended reals -/

open Idealize.ShloMosaic.Pointwise

variable (Z W : FVec Ideal S160x128 .f32) (f : Vec Ideal S160x1 .f32) (e : Fin 160) (l : Fin 128)

/-- The logits of one token. -/
abbrev col (l : Fin 128) : Fin 160 → EReal := fun e => Z (ix2 e l)

/-- The shift of a token: its maximal logit, or zero where that is infinite. -/
theorem m_apply : m Z (ix2 0 l) = Alg.shift (Finset.univ.fold max ⊥ (col Z l)) := by
  pointwise [m]
  rw [show Ideal.ofBits .f32 4286578688#32 = ⊥ by simp [Ideal.ofBits, Ideal.ieee],
    show Ideal.ofBits .f32 2139095040#32 = ⊤ by simp [Ideal.ofBits, Ideal.ieee]]
  rfl

/-- The shifted exponentials. -/
theorem ex_apply : ex Z (ix2 e l) = Ideal.exp (col Z l e - Alg.shift (Finset.univ.fold max ⊥ (col Z l))) := by
  rw [← m_apply]
  generalize hM : m Z = M
  pointwise [ex, hM]

/-- Their sum over the experts. -/
theorem sm_apply : sm Z (ix2 0 l) = ∑ e, Ideal.exp (col Z l e - Alg.shift (Finset.univ.fold max ⊥ (col Z l))) := by
  simp only [← ex_apply]
  generalize hM : ex Z = M
  pointwise [sm, hM]

/-- The token's log-sum-exp, free of the shift. -/
theorem lse_apply : lse Z (ix2 0 l) = Spec.lse (col Z l) := by
  rw [Spec.lse, ← (Alg.softmax (by decide) _ _ rfl).1, ← sm_apply, ← m_apply]
  rfl

/-- The token's probabilities, free of the shift. -/
theorem p_apply : p Z (ix2 e l) = Spec.p (col Z l) e := by
  rw [Spec.p, Spec.lse, ← (Alg.softmax (by decide) _ _ rfl).2, ← ex_apply, ← sm_apply]
  generalize hM : ex Z = M
  generalize hN : sm Z = N
  pointwise [p, hM, hN]

/-- A product summed over the experts. -/
theorem dot_apply : dot Z W (ix2 0 l) = ∑ e, Z (ix2 e l) * W (ix2 e l) := by
  pointwise [dot]

/-- The loads, the same in every lane. -/
theorem fb_apply : fb f (ix2 e l) = f (ix2 e 0) := by
  pointwise [fb]

/-- One rung of the select ladder. -/
theorem step_apply (i : Vec Ideal S1x1x128 .i32) (d : Vec Ideal S1x1x128 .f32) :
    step Z i d (ix2 e l) = if BitVec.ofNat 32 e = i (ix3 0 0 l) then d (ix3 0 0 l) else Z (ix2 e l) := by
  pointwise [step]
  by_cases h : BitVec.ofNat 32 ↑e = i (ix3 0 0 l)
  · simp [Scalar.select, IntOp.cmpi, h]
  · simp [Scalar.select, IntOp.cmpi, h, beq_eq_false_iff_ne.mpr h]

/-- The probabilities weighted by the loads. -/
theorem g_apply : dot (p Z) (fb f) (ix2 0 l) = Spec.g (col Z l) fun e => f (ix2 e 0) := by
  simp only [dot_apply, p_apply, fb_apply]
  rfl

/-- The stored load-balancing terms. -/
theorem auxO_apply : auxO f Z (ix3 0 0 l) = Spec.aux (col Z l) fun e => f (ix2 e 0) := by
  rw [Spec.aux, ← g_apply]
  generalize hM : dot (p Z) (fb f) = M
  pointwise [auxO, hM]

/-- The stored z-loss terms. -/
theorem zO_apply : zO Z (ix3 0 0 l) = Spec.zl (col Z l) := by
  rw [Spec.zl, ← lse_apply]
  generalize hM : lse Z = M
  pointwise [zO, hM]

/-- The stored log-sum-exps. -/
theorem lseO_apply : lseO Z (ix3 0 0 l) = Spec.lse (col Z l) := by
  rw [← lse_apply]
  generalize hM : lse Z = M
  pointwise [lseO, hM]

/-- The stored gradients, over a ladder that spreads the gates. -/
theorem dlO_apply (a : Fin 6 → BitVec 32) (v : Fin 6 → EReal) (hW : ∀ e, W (ix2 e l) = Spec.dp a v e) :
    dlO f Z W (ix3 0 e l) = Spec.dl (col Z l) (fun e => f (ix2 e 0)) a v e := by
  have hr : dot (p Z) W (ix2 0 l) = Spec.r (col Z l) a v := by
    simp only [dot_apply, p_apply, hW]; rfl
  rw [Spec.dl, ← hr, ← lse_apply, ← g_apply, ← p_apply, ← hW]
  generalize hM : lse Z = M
  generalize hN : p Z = N
  pointwise [dlO, hM, hN]
  rw [fb_apply]

/-! ### Over the input blocks -/

variable (x0 : Vec Ideal S1x640x12288 .fp8e4m3) (x1 : Vec Ideal S1x1x640 .f32) (x2 : Vec Ideal S160x12288 .bf16)
  (x4 : Vec Ideal S1x6x640 .i32) (x5 : Vec Ideal S1x6x640 .f32)

/-- The logits of the block's token `s`. -/
def zP (s : Fin 640) : Fin 160 → EReal := fun e => (∑ k : Fin 12288, x2 (ix2 e k) * x0 (ix3 0 s k)) * x1 (ix3 0 0 s)

/-- The product of weights and codes. -/
theorem pay41_apply (s : Fin 640) : k0_pay41 x2 x0 (ix2 e s) = ∑ k : Fin 12288, x2 (ix2 e k) * x0 (ix3 0 s k) := by
  pointwise [k0_pay41]

/-- A chunk's logits are those of its tokens. -/
theorem z_apply (off : ℕ) (hs) (h1 : ∀ a, (![0, 0, off] : Fin 3 → ℕ) a + S1x1x128.size a ≤ S1x1x640.size a) (s : Fin 640)
    (hl : s.val = off + l.val) :
    col (z off hs (k0_pay41 x2 x0) (View.ld x1 (Rect.unit ![0, 0, off] ![1, 1, 128] h1))) l = zP x0 x1 x2 s := by
  funext e
  rw [zP, ← pay41_apply]
  generalize hM : k0_pay41 x2 x0 = M
  obtain ⟨s, _⟩ := s
  subst hl
  pointwise [z, hM]

/-- A chunk's row of one choice is that of its tokens. -/
theorem row_apply {t : EltTy} (x : Vec Ideal S1x6x640 t) (off k : ℕ) (h1 : ∀ a, (![0, k, off] : Fin 3 → ℕ) a + S1x1x128.size a ≤ S1x6x640.size a)
    (s : Fin 640) (hl : s.val = off + l.val) (k' : Fin 6) (hk : k'.val = k) :
    (View.ld x (Rect.unit ![0, k, off] ![1, 1, 128] h1)) (ix3 0 0 l) = x (ix3 0 k' s) := by
  obtain ⟨s, _⟩ := s
  obtain ⟨k', _⟩ := k'
  subst hl
  subst hk
  pointwise

/-- The ladder is the sum over the choices when a token's experts are distinct. -/
theorem gates_apply (i0 d0 i1 d1 i2 d2 i3 d3 i4 d4 i5 d5) (a : Fin 6 → BitVec 32) (v : Fin 6 → EReal)
    (ha : ∀ i j, i = j ∨ a i ≠ a j)
    (h0 : i0 (ix3 0 0 l) = a 0 ∧ d0 (ix3 0 0 l) = v 0) (h1 : i1 (ix3 0 0 l) = a 1 ∧ d1 (ix3 0 0 l) = v 1)
    (h2 : i2 (ix3 0 0 l) = a 2 ∧ d2 (ix3 0 0 l) = v 2) (h3 : i3 (ix3 0 0 l) = a 3 ∧ d3 (ix3 0 0 l) = v 3)
    (h4 : i4 (ix3 0 0 l) = a 4 ∧ d4 (ix3 0 0 l) = v 4) (h5 : i5 (ix3 0 0 l) = a 5 ∧ d5 (ix3 0 0 l) = v 5) :
    gates (F := Ideal) i0 d0 i1 d1 i2 d2 i3 d3 i4 d4 i5 d5 (ix2 e l) = Spec.dp a v e := by
  have hz : (broadcast S160x128 (FloatOps.ofBits (F := Ideal) .f32 0#32)) (ix2 e l) = 0 := by pointwise
  simp only [gates, step_apply, h0, h1, h2, h3, h4, h5]
  rw [hz]
  exact Alg.ladder a v _ ha

end Cert.KernelIdeal.Chunk
-- ==== Proof.Points.lean ====
module

public import proofs.«01_k».proof.Proof.Chunk
public import proofs.«01_k».proof.Proof.Gen.KernelIdeal.Frame
public import Idealize.ShloMosaic.Lib.Pipeline.ReadBack

@[expose] public section

set_option maxRecDepth 16384

/-! What one grid point leaves in each output's block and in the two scratches, as chunks. -/

noncomputable section

namespace Cert.KernelIdeal.Points

open Idealize.ShloMosaic Idealize.SL.Sem Gen

variable (x0 : Vec Ideal S1x640x12288 .fp8e4m3) (x1 : Vec Ideal S1x1x640 .f32) (x2 : Vec Ideal S160x12288 .bf16)
  (x3 : Vec Ideal S3x6x640 .i32) (x4 : Vec Ideal S1x6x640 .i32) (x5 : Vec Ideal S1x6x640 .f32) (f : Vec Ideal S160x1 .f32)

/-- The rows of chunk `c` lie in a row of 640 tokens. -/
theorem inb1 (c : Fin 5) : ∀ a, (![0, 0, 128 * c.val] : Fin 3 → ℕ) a + S1x1x128.size a ≤ S1x1x640.size a := by
  revert c; decide

/-- The columns of chunk `c` lie in the product. -/
theorem sl (c : Fin 5) : S160x640.Slices ![0, 128 * c.val] S160x128 := by
  revert c; decide

/-- Choice `k` of chunk `c` lies in the block of choices. -/
theorem inb6 (c : Fin 5) (k : Fin 6) :
    ∀ a, (![0, k.val, 128 * c.val] : Fin 3 → ℕ) a + S1x1x128.size a ≤ S1x6x640.size a := by
  revert c k; decide

/-- Choice `k` of chunk `c` of batch row `b` lies in the array of choices. -/
theorem inb3 (b : Fin 3) (c : Fin 5) (k : Fin 6) :
    ∀ a, (![b.val, k.val, 128 * c.val] : Fin 3 → ℕ) a + S1x1x128.size a ≤ S3x6x640.size a := by
  revert b c k; decide

/-- The columns of chunk `c` lie in the block of gradients. -/
theorem inbD (c : Fin 5) : ∀ a, (![0, 0, 128 * c.val] : Fin 3 → ℕ) a + S1x160x128.size a ≤ S1x160x640.size a := by
  revert c; decide

/-- The logits of chunk `c`. -/
def zC (c : Fin 5) : FVec Ideal S160x128 .f32 :=
  Chunk.z (128 * c.val) (sl c) (k0_pay41 x2 x0) (View.ld x1 (Rect.unit ![0, 0, 128 * c.val] ![1, 1, 128] (inb1 c)))

/-- Choice `k` of chunk `c` of a block. -/
def row {t : EltTy} (x : Vec Ideal S1x6x640 t) (c : Fin 5) (k : Fin 6) : Vec Ideal S1x1x128 t :=
  View.ld x (Rect.unit ![0, k.val, 128 * c.val] ![1, 1, 128] (inb6 c k))

/-- The gates' gradients of chunk `c` over the experts. -/
def wC (c : Fin 5) : FVec Ideal S160x128 .f32 :=
  Chunk.gates (row x4 c 0) (row x5 c 0) (row x4 c 1) (row x5 c 1) (row x4 c 2) (row x5 c 2)
    (row x4 c 3) (row x5 c 3) (row x4 c 4) (row x5 c 4) (row x4 c 5) (row x5 c 5)

/-- Five chunks stored along a row of 640 tokens. -/
def rows (w : Fin 5 → FVec Ideal S1x1x128 .f32) : Vec Ideal S1x1x640 .f32 :=
  View.canon (Val := Elt Ideal) (e := .f32) [⟨Rect.unit ![0, 0, 512] ![1, 1, 128] (inb1 4), w 4⟩, ⟨Rect.unit ![0, 0, 384] ![1, 1, 128] (inb1 3), w 3⟩,
    ⟨Rect.unit ![0, 0, 256] ![1, 1, 128] (inb1 2), w 2⟩, ⟨Rect.unit ![0, 0, 128] ![1, 1, 128] (inb1 1), w 1⟩,
    ⟨Rect.unit ![0, 0, 0] ![1, 1, 128] (inb1 0), w 0⟩]

/-- Five chunks stored along the columns of the block of gradients. -/
def cols (w : Fin 5 → FVec Ideal S1x160x128 .f32) : Vec Ideal S1x160x640 .f32 :=
  View.canon (Val := Elt Ideal) (e := .f32) [⟨Rect.unit ![0, 0, 512] ![1, 160, 128] (inbD 4), w 4⟩,
    ⟨Rect.unit ![0, 0, 384] ![1, 160, 128] (inbD 3), w 3⟩, ⟨Rect.unit ![0, 0, 256] ![1, 160, 128] (inbD 2), w 2⟩,
    ⟨Rect.unit ![0, 0, 128] ![1, 160, 128] (inbD 1), w 1⟩, ⟨Rect.unit ![0, 0, 0] ![1, 160, 128] (inbD 0), w 0⟩]

/-- The probabilities of the five chunks added to `w`. -/
def psum (w : Vec Ideal S160x128 .f32) : Vec Ideal S160x128 .f32 :=
  addf (addf (addf (addf (addf w (Chunk.p (zC x0 x1 x2 0))) (Chunk.p (zC x0 x1 x2 1))) (Chunk.p (zC x0 x1 x2 2)))
    (Chunk.p (zC x0 x1 x2 3))) (Chunk.p (zC x0 x1 x2 4))

/-- One row of choices counted into `w`. -/
def count (w : IVec S160x128 32) (i : Vec Ideal S1x1x128 .i32) : IVec S160x128 32 :=
  addi w (select (cmpi .eq (iota .tc S160x128 32 [0] iota_S160x128_d0_w32)
      (broadcastTo S160x128 (shapeCast S1x128 i shapeCasts_S1x1x128_S1x128) broadcasts_S1x128_S160x128))
    (broadcast S160x128 1#32) (broadcast S160x128 0#32))

/-- All the rows of choices counted, lane by lane. -/
def counts : IVec S160x128 32 :=
  [0, 1, 2].foldl (fun w (b : Fin 3) => [0, 1, 2, 3, 4].foldl (fun w (c : Fin 5) => [0, 1, 2, 3, 4, 5].foldl (fun w (k : Fin 6) =>
    count w (View.ld x3 (Rect.unit ![b.val, k.val, 128 * c.val] ![1, 1, 128] (inb3 b c k)))) w) w) (broadcast S160x128 0#32)

/-- The loads from the counts. -/
def loads : Vec Ideal S160x1 .f32 :=
  k0_pay39 (F := Ideal) (divf (sitofp .f32 (shapeCast S160x1 (multiReductionI .add [1] S160 (counts x3) 0#32 reduces_S160x128_S160 rfl)
    shapeCasts_S160_S160x1)) (broadcast S160x1 (Scalar.ofBits .f32 0x46340000#32)))

set_option maxHeartbeats 2000000 in
/-- Case A: the load-balancing terms. -/
theorem outA_6 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : cond0_0 i) (hc1 : ¬cond0_1 i)
      :
    out0_A_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 = rows fun j => Chunk.auxO (loads x3) (zC x0 x1 x2 j) := by
  funext y
  frame_out
  rfl

set_option maxHeartbeats 2000000 in
/-- Case A: the z-loss terms. -/
theorem outA_7 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : cond0_0 i) (hc1 : ¬cond0_1 i)
      :
    out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 = rows fun j => Chunk.zO (zC x0 x1 x2 j) := by
  funext y
  frame_out
  rfl

set_option maxHeartbeats 2000000 in
/-- Case A: the log-sum-exps. -/
theorem outA_9 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : cond0_0 i) (hc1 : ¬cond0_1 i)
      :
    out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 = rows fun j => Chunk.lseO (zC x0 x1 x2 j) := by
  funext y
  frame_out
  rfl

set_option maxHeartbeats 2000000 in
/-- Case A: the gradients. -/
theorem outA_10 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : cond0_0 i) (hc1 : ¬cond0_1 i)
      :
    out0_A_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 = cols fun j => Chunk.dlO (loads x3) (zC x0 x1 x2 j) (wC x4 x5 j) := by
  funext y
  frame_out
  rfl

/-- Case B: the load-balancing terms. -/
theorem outB_6 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : ¬cond0_0 i) (hc1 : ¬cond0_1 i)
     (xs0 : Vec Ideal S160x1 .f32) (xs1 : Vec Ideal S160x128 .f32) :
    out0_B_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = rows fun j => Chunk.auxO xs0 (zC x0 x1 x2 j) := by
  funext y
  frame_out
  rfl

/-- Case B: the z-loss terms. -/
theorem outB_7 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : ¬cond0_0 i) (hc1 : ¬cond0_1 i)
     (xs0 : Vec Ideal S160x1 .f32) (xs1 : Vec Ideal S160x128 .f32) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = rows fun j => Chunk.zO (zC x0 x1 x2 j) := by
  funext y
  frame_out
  rfl

/-- Case B: the log-sum-exps. -/
theorem outB_9 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : ¬cond0_0 i) (hc1 : ¬cond0_1 i)
     (xs0 : Vec Ideal S160x1 .f32) (xs1 : Vec Ideal S160x128 .f32) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = rows fun j => Chunk.lseO (zC x0 x1 x2 j) := by
  funext y
  frame_out
  rfl

/-- Case B: the gradients. -/
theorem outB_10 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : ¬cond0_0 i) (hc1 : ¬cond0_1 i)
     (xs0 : Vec Ideal S160x1 .f32) (xs1 : Vec Ideal S160x128 .f32) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = cols fun j => Chunk.dlO xs0 (zC x0 x1 x2 j) (wC x4 x5 j) := by
  funext y
  frame_out
  rfl

/-- Case C: the load-balancing terms. -/
theorem outC_6 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : ¬cond0_0 i) (hc1 : cond0_1 i)
     (xs0 : Vec Ideal S160x1 .f32) (xs1 : Vec Ideal S160x128 .f32) :
    out0_C_6 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = rows fun j => Chunk.auxO xs0 (zC x0 x1 x2 j) := by
  funext y
  frame_out
  rfl

/-- Case C: the z-loss terms. -/
theorem outC_7 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : ¬cond0_0 i) (hc1 : cond0_1 i)
     (xs0 : Vec Ideal S160x1 .f32) (xs1 : Vec Ideal S160x128 .f32) :
    out0_C_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = rows fun j => Chunk.zO (zC x0 x1 x2 j) := by
  funext y
  frame_out
  rfl

/-- Case C: the log-sum-exps. -/
theorem outC_9 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : ¬cond0_0 i) (hc1 : cond0_1 i)
     (xs0 : Vec Ideal S160x1 .f32) (xs1 : Vec Ideal S160x128 .f32) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = rows fun j => Chunk.lseO (zC x0 x1 x2 j) := by
  funext y
  frame_out
  rfl

/-- Case C: the gradients. -/
theorem outC_10 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : ¬cond0_0 i) (hc1 : cond0_1 i)
     (xs0 : Vec Ideal S160x1 .f32) (xs1 : Vec Ideal S160x128 .f32) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = cols fun j => Chunk.dlO xs0 (zC x0 x1 x2 j) (wC x4 x5 j) := by
  funext y
  frame_out
  rfl

set_option maxHeartbeats 2000000 in
/-- Case A: the loads scratch. -/
theorem sA_0 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : cond0_0 i) (hc1 : ¬cond0_1 i)
      :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 = loads x3 := by
  funext y
  frame_out
  rfl

set_option maxHeartbeats 2000000 in
/-- Case A: the scratch of summed probabilities. -/
theorem sA_1 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : cond0_0 i) (hc1 : ¬cond0_1 i)
      :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 = shapeCast S160x128 (psum x0 x1 x2 (k0_pay40 (F := Ideal))) shapeCasts_S160x128_S160x128 := by
  funext y
  frame_out
  rfl

/-- Case B: the loads scratch. -/
theorem sB_0 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : ¬cond0_0 i) (hc1 : ¬cond0_1 i)
     (xs0 : Vec Ideal S160x1 .f32) (xs1 : Vec Ideal S160x128 .f32) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = xs0 := by
  rfl

/-- Case B: the scratch of summed probabilities. -/
theorem sB_1 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : ¬cond0_0 i) (hc1 : ¬cond0_1 i)
     (xs0 : Vec Ideal S160x1 .f32) (xs1 : Vec Ideal S160x128 .f32) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = shapeCast S160x128 (psum x0 x1 x2 xs1) shapeCasts_S160x128_S160x128 := by
  funext y
  frame_out
  rfl

/-- Case C: the loads scratch. -/
theorem sC_0 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : ¬cond0_0 i) (hc1 : cond0_1 i)
     (xs0 : Vec Ideal S160x1 .f32) (xs1 : Vec Ideal S160x128 .f32) :
    sout0_C_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = xs0 := by
  rfl

/-- Case C: the scratch of summed probabilities. -/
theorem sC_1 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : ¬cond0_0 i) (hc1 : cond0_1 i)
     (xs0 : Vec Ideal S160x1 .f32) (xs1 : Vec Ideal S160x128 .f32) :
    sout0_C_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = shapeCast S160x128 (psum x0 x1 x2 xs1) shapeCasts_S160x128_S160x128 := by
  funext y
  frame_out
  rfl

/-- Case C: the mean probabilities. -/
theorem outC_8 (c : Dev nD) (i : grid0.Coords) (arg1 : Memref sig .tc .vmem S1x640x12288 .fp8e4m3) (harg1 : arg1.IsWhole) (arg2 : Memref sig .tc .vmem S1x1x640 .f32) (harg2 : arg2.IsWhole) (arg3 : Memref sig .tc .vmem S160x12288 .bf16) (harg3 : arg3.IsWhole) (arg4 : Memref sig .tc .vmem S3x6x640 .i32) (harg4 : arg4.IsWhole) (arg5 : Memref sig .tc .vmem S1x6x640 .i32) (harg5 : arg5.IsWhole) (arg6 : Memref sig .tc .vmem S1x6x640 .f32) (harg6 : arg6.IsWhole) (arg7 : Memref sig .tc .vmem S1x1x640 .f32) (harg7 : arg7.IsWhole) (arg8 : Memref sig .tc .vmem S1x1x640 .f32) (harg8 : arg8.IsWhole) (arg9 : Memref sig .tc .vmem S1x160 .f32) (harg9 : arg9.IsWhole) (arg10 : Memref sig .tc .vmem S1x1x640 .f32) (harg10 : arg10.IsWhole) (arg11 : Memref sig .tc .vmem S1x160x640 .f32) (harg11 : arg11.IsWhole) (arg12 : Memref sig .tc .vmem S160x1 .f32) (harg12 : arg12.IsWhole) (arg13 : Memref sig .tc .vmem S160x128 .f32) (harg13 : arg13.IsWhole) (hc0 : ¬cond0_0 i) (hc1 : cond0_1 i)
     (xs0 : Vec Ideal S160x1 .f32) (xs1 : Vec Ideal S160x128 .f32) :
    out0_C_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 = k0_pay1 (F := Ideal) (psum x0 x1 x2 xs1) := by
  funext y
  frame_out
  rfl

end Cert.KernelIdeal.Points
-- ==== Proof.Vals.lean ====
module

public import proofs.«01_k».proof.Proof.Points

@[expose] public section

/-! What one grid point leaves, read at an index. -/

noncomputable section

namespace Cert.KernelIdeal.Points

open Idealize.ShloMosaic Idealize.SL.Sem Gen
open Idealize.ShloMosaic.Pointwise

/-- Token `l` of chunk `c`. -/
def tok (c : Fin 5) (l : Fin 128) : Fin 640 := ⟨128 * c.val + l.val, by omega⟩

/-- A sum over the tokens is a sum over the chunks and their lanes. -/
theorem sum_tok {M : Type} [AddCommMonoid M] (g : Fin 640 → M) : ∑ l, ∑ c, g (tok c l) = ∑ s, g s := by
  rw [Finset.sum_comm, ← Fintype.sum_prod_type' (f := fun c l => g (tok c l)), ← Equiv.sum_comp (finProdFinEquiv (m := 5) (n := 128))]
  refine Finset.sum_congr rfl fun q _ => congrArg g (Fin.ext ?_)
  simp only [tok, finProdFinEquiv_apply_val]
  omega

/-- Five chunks stored along a row, read at a token. -/
theorem rows_apply (w : Fin 5 → FVec Ideal S1x1x128 .f32) (G : Fin 640 → EReal)
    (h : ∀ c l, w c (ix3 0 0 l) = G (tok c l)) (y : S1x1x640.Idx) : rows w y = G (y 2) := by
  have h' : ∀ (c : Fin 5) (x : S1x1x128.Idx) (s : Fin 640), s.val = 128 * c.val + (x 2).val → w c x = G s := by
    intro c x s hs
    idx_vars x
    obtain rfl : x0 = 0 := Subsingleton.elim _ _
    obtain rfl : x1 = 0 := Subsingleton.elim _ _
    exact (h c _).trans (congrArg G (Fin.ext hs.symm))
  unfold rows
  canon_tiles x h0
  · exact h' 4 x _ h02
  · exact h' 3 x _ h02
  · exact h' 2 x _ h02
  · exact h' 1 x _ h02
  · exact h' 0 x _ (by simpa using h02)

/-- Five chunks stored along the columns, read at an expert and a token. -/
theorem cols_apply (w : Fin 5 → FVec Ideal S1x160x128 .f32) (G : Fin 160 → Fin 640 → EReal)
    (h : ∀ c e l, w c (ix3 0 e l) = G e (tok c l)) (y : S1x160x640.Idx) : cols w y = G (y 1) (y 2) := by
  have h' : ∀ (c : Fin 5) (x : S1x160x128.Idx) (e : Fin 160) (s : Fin 640), e.val = (x 1).val → s.val = 128 * c.val + (x 2).val →
      w c x = G e s := by
    intro c x e s he hs
    idx_vars x
    obtain rfl : x0 = 0 := Subsingleton.elim _ _
    exact (h c _ _).trans (congrArg₂ G (Fin.ext he.symm) (Fin.ext hs.symm))
  unfold cols
  canon_tiles x h0
  · exact h' 4 x _ _ h01 h02
  · exact h' 3 x _ _ h01 h02
  · exact h' 2 x _ _ h01 h02
  · exact h' 1 x _ _ h01 h02
  · exact h' 0 x _ _ h01 (by simpa using h02)

variable (x0 : Vec Ideal S1x640x12288 .fp8e4m3) (x1 : Vec Ideal S1x1x640 .f32) (x2 : Vec Ideal S160x12288 .bf16)
  (x3 : Vec Ideal S3x6x640 .i32) (x4 : Vec Ideal S1x6x640 .i32) (x5 : Vec Ideal S1x6x640 .f32) (f : Vec Ideal S160x1 .f32)

/-- The logits of a token of a chunk. -/
theorem zC_apply (c : Fin 5) (l : Fin 128) : Chunk.col (zC x0 x1 x2 c) l = Chunk.zP x0 x1 x2 (tok c l) :=
  Chunk.z_apply l x0 x1 x2 _ _ _ _ rfl

/-- The row of load-balancing terms. -/
theorem aux_apply (y) : rows (fun j => Chunk.auxO f (zC x0 x1 x2 j)) y
    = Spec.aux (Chunk.zP x0 x1 x2 (y 2)) fun e => f (ix2 e 0) :=
  rows_apply _ (fun s => Spec.aux (Chunk.zP x0 x1 x2 s) fun e => f (ix2 e 0))
    (fun c l => by rw [Chunk.auxO_apply, zC_apply]) y

/-- The row of z-loss terms. -/
theorem zl_apply (y) : rows (fun j => Chunk.zO (zC x0 x1 x2 j)) y = Spec.zl (Chunk.zP x0 x1 x2 (y 2)) :=
  rows_apply _ (fun s => Spec.zl (Chunk.zP x0 x1 x2 s)) (fun c l => by rw [Chunk.zO_apply, zC_apply]) y

/-- The row of log-sum-exps. -/
theorem lse_apply (y) : rows (fun j => Chunk.lseO (zC x0 x1 x2 j)) y = Spec.lse (Chunk.zP x0 x1 x2 (y 2)) :=
  rows_apply _ (fun s => Spec.lse (Chunk.zP x0 x1 x2 s)) (fun c l => by rw [Chunk.lseO_apply, zC_apply]) y

/-- The block of gradients, when every token's experts are distinct. -/
theorem dl_apply (hd : ∀ s i j, i = j ∨ x4 (ix3 0 i s) ≠ x4 (ix3 0 j s)) (y) :
    cols (fun j => Chunk.dlO f (zC x0 x1 x2 j) (wC x4 x5 j)) y
      = Spec.dl (Chunk.zP x0 x1 x2 (y 2)) (fun e => f (ix2 e 0)) (fun k => x4 (ix3 0 k (y 2))) (fun k => x5 (ix3 0 k (y 2))) (y 1) := by
  refine cols_apply _ (fun e s => Spec.dl (Chunk.zP x0 x1 x2 s) (fun e => f (ix2 e 0)) (fun k => x4 (ix3 0 k s))
    (fun k => x5 (ix3 0 k s)) e) (fun c e l => ?_) y
  have hr : ∀ {t : EltTy} (x : Vec Ideal S1x6x640 t) (k : Fin 6), row x c k (ix3 0 0 l) = x (ix3 0 k (tok c l)) := fun x k =>
    Chunk.row_apply l x _ _ _ _ rfl _ rfl
  rw [Chunk.dlO_apply _ _ _ _ _ (fun k => x4 (ix3 0 k (tok c l))) (fun k => x5 (ix3 0 k (tok c l))), zC_apply]
  exact fun e => Chunk.gates_apply _ _ _ _ _ _ _ _ _ _ _ _ _ _ _ _ (fun i j => hd _ i j)
    ⟨hr _ _, hr _ _⟩ ⟨hr _ _, hr _ _⟩ ⟨hr _ _, hr _ _⟩ ⟨hr _ _, hr _ _⟩ ⟨hr _ _, hr _ _⟩ ⟨hr _ _, hr _ _⟩

/-- The five chunks' probabilities added lane by lane. -/
theorem psum_apply (w : Vec Ideal S160x128 .f32) (e : Fin 160) (l : Fin 128) :
    psum x0 x1 x2 w (ix2 e l) = w (ix2 e l) + ∑ c, Spec.p (Chunk.zP x0 x1 x2 (tok c l)) e := by
  simp only [← zC_apply, ← Chunk.p_apply, Fin.sum_univ_five, ← add_assoc]
  rfl

/-- A cast to the same shape reads the same. -/
theorem cast_apply (w : Vec Ideal S160x128 .f32) (e : Fin 160) (l : Fin 128) :
    shapeCast S160x128 w shapeCasts_S160x128_S160x128 (ix2 e l) = w (ix2 e l) := by
  pointwise

/-- The mean probabilities from the lanes' sums. -/
theorem pay1_apply (v : FVec Ideal S160x128 .f32) (e : Fin 160) :
    k0_pay1 v (ix2 0 e) = (∑ l, v (ix2 e l)) * Ideal.ofBits .f32 0x3A088889#32 := by
  pointwise [k0_pay1]

/-- The summed probabilities start from zero. -/
theorem pay40_apply (e : Fin 160) (l : Fin 128) : k0_pay40 (F := Ideal) (ix2 e l) = 0 := by
  pointwise [k0_pay40]

/-- One row of choices counted. -/
theorem count_apply (w : IVec S160x128 32) (i : Vec Ideal S1x1x128 .i32) (e : Fin 160) (l : Fin 128) :
    count w i (ix2 e l) = w (ix2 e l) + if BitVec.ofNat 32 e = i (ix3 0 0 l) then 1 else 0 := by
  pointwise [count]
  by_cases h : BitVec.ofNat 32 ↑e = i (ix3 0 0 l)
  · simp [Scalar.select, IntOp.cmpi, IntOp.addi, h]
  · simp [Scalar.select, IntOp.cmpi, IntOp.addi, h, beq_eq_false_iff_ne.mpr h]

/-- Steps that each add a term at an index leave the sum of the terms there. -/
theorem foldl_apply {α ι : Type} (st : (ι → BitVec 32) → α → (ι → BitVec 32)) (t : α → BitVec 32) (i : ι)
    (h : ∀ w a, st w a i = w i + t a) (L : List α) (w : ι → BitVec 32) : L.foldl st w i = w i + (L.map t).sum := by
  induction L generalizing w with
  | nil => simp
  | cons a L ih => rw [List.foldl_cons, ih, h, List.map_cons, List.sum_cons, add_assoc]

/-- The counts, lane by lane. -/
theorem counts_apply (e : Fin 160) (l : Fin 128) : counts x3 (ix2 e l)
    = ∑ b, ∑ c, ∑ k, if BitVec.ofNat 32 e = x3 (ix3 b k (tok c l)) then 1 else 0 := by
  have hk : ∀ (b : Fin 3) (c : Fin 5) (w : IVec S160x128 32) (k : Fin 6),
      count w (View.ld x3 (Rect.unit ![b.val, k.val, 128 * c.val] ![1, 1, 128] (inb3 b c k))) (ix2 e l)
        = w (ix2 e l) + if BitVec.ofNat 32 e = x3 (ix3 b k (tok c l)) then 1 else 0 := by
    intro b c w k
    rw [count_apply]
    congr 2
    pointwise
    rfl
  unfold counts
  rw [foldl_apply _ (fun b => ∑ c, ∑ k, if BitVec.ofNat 32 e = x3 (ix3 b k (tok c l)) then 1 else 0)]
  · rw [Fin.sum_univ_def]
    exact zero_add _
  intro w b
  rw [foldl_apply _ (fun c => ∑ k, if BitVec.ofNat 32 e = x3 (ix3 b k (tok c l)) then 1 else 0), Fin.sum_univ_def]
  · rfl
  intro w c
  rw [foldl_apply _ (fun k => if BitVec.ofNat 32 e = x3 (ix3 b k (tok c l)) then 1 else 0) _ (hk b c), Fin.sum_univ_def]
  rfl

/-- The loads. -/
theorem loads_apply (e : Fin 160) : loads x3 (ix2 e 0) = Spec.load (fun b s k => x3 (ix3 b k s)) e := by
  have hc : (∑ l, counts x3 (ix2 e l)) = Spec.cnt (fun b s k => x3 (ix3 b k s)) e := by
    simp only [counts_apply]
    rw [Finset.sum_comm]
    exact Finset.sum_congr rfl fun b _ => sum_tok fun s => ∑ k, if BitVec.ofNat 32 e = x3 (ix3 b k s) then 1 else 0
  rw [Spec.load, ← hc]
  unfold loads
  generalize hM : counts x3 = M
  pointwise [k0_pay39, hM]
  rw [Finset.sum_eq_fold]
  rfl

end Cert.KernelIdeal.Points
-- ==== Proof.Arrays.lean ====
module

public import proofs.«01_k».proof.Proof.Vals
public import Idealize.ShloMosaic.Lib.Claim

@[expose] public section

set_option maxRecDepth 16384

/-! The kernel's arrays after the run. -/

noncomputable section

namespace Cert.KernelIdeal.Arrays

open Idealize.ShloMosaic Idealize.SL.Sem Gen
open Idealize.ShloMosaic.Pointwise

variable (m : (ℓ : Loc nD τ sig) → Buf (Elt Ideal) ℓ) (c : Dev nD)

/-- The codes. -/
abbrev a0 : Vec Ideal S3x640x12288 .fp8e4m3 := m (c.tc.loc main_arg0)
/-- The scales. -/
abbrev a1 : Vec Ideal S3x640 .f32 := m (c.tc.loc main_arg1)
/-- The router's weights. -/
abbrev a2 : Vec Ideal S12288x160 .bf16 := m (c.tc.loc main_arg2)
/-- The chosen experts. -/
abbrev a3 : Vec Ideal S3x640x6 .i32 := m (c.tc.loc main_arg3)
/-- The gates' gradients. -/
abbrev a4 : Vec Ideal S3x640x6 .f32 := m (c.tc.loc main_arg4)

/-- The grid's point `t` is batch row `t`. -/
abbrev row (t : Fin cfg0.N) : Fin 3 := t

/-- The weights as the region reads them: transposed. -/
theorem V0_eq : V m c main_v0 = transpose S160x12288 [1, 0] (a2 m c) transposes_S12288x160_S160x12288_1_0 := by
  dsimp only [V, V0, List.flatten_cons, List.flatten_nil, List.append_nil, hostOps0, List.cons_append, List.nil_append]
  after_results

/-- The chosen experts as the region reads them: transposed. -/
theorem V1_eq : V m c main_v1 = transpose S3x6x640 [0, 2, 1] (a3 m c) transposes_S3x640x6_S3x6x640_0_2_1 := by
  dsimp only [V, V0, List.flatten_cons, List.flatten_nil, List.append_nil, hostOps0, List.cons_append, List.nil_append]
  after_results

/-- The gates' gradients as the region reads them: transposed. -/
theorem V2_eq : V m c main_v2 = transpose S3x6x640 [0, 2, 1] (a4 m c) transposes_S3x640x6_S3x6x640_0_2_1 := by
  dsimp only [V, V0, List.flatten_cons, List.flatten_nil, List.append_nil, hostOps0, List.cons_append, List.nil_append]
  after_results

/-- The scales as the region reads them: with a unit axis. -/
theorem V3_eq : V m c main_v3 = shapeCast S3x1x640 (a1 m c) shapeCasts_S3x640_S3x1x640 := by
  dsimp only [V, V0, List.flatten_cons, List.flatten_nil, List.append_nil, hostOps0, List.cons_append, List.nil_append]
  after_results
  rfl

/-- Where the blocks of the inputs lie: at the point's batch row, or whole. -/
theorem index_in : ∀ t : Fin cfg0.N, win0_0.index t = ![(row t).val, 0, 0] ∧ win0_1.index t = ![(row t).val, 0, 0]
    ∧ win0_2.index t = ![0, 0] ∧ win0_3.index t = ![0, 0, 0] ∧ win0_4.index t = ![(row t).val, 0, 0]
    ∧ win0_5.index t = ![(row t).val, 0, 0] := by decide +kernel

/-- The block of codes. -/
theorem blk0 (t : Fin cfg0.N) (s : Fin 640) (k : Fin 12288) :
    (iblk m c 0 t : Vec Ideal S1x640x12288 .fp8e4m3) (ix3 0 s k) = a0 m c (ix3 (row t) s k) := by
  unfold iblk
  blk_simp
  erw [V_main_arg0]
  refine congrArg _ (funext fun a => Fin.ext ?_)
  fin_cases a <;> blk_simp [(index_in t).1] <;> rfl

/-- The block of scales. -/
theorem blk1 (t : Fin cfg0.N) (s : Fin 640) :
    (iblk m c 1 t : Vec Ideal S1x1x640 .f32) (ix3 0 0 s) = a1 m c (ix2 (row t) s) := by
  have h : shapeCast S3x1x640 (a1 m c) shapeCasts_S3x640_S3x1x640 (ix3 (row t) 0 s) = a1 m c (ix2 (row t) s) := by
    pointwise
  unfold iblk
  blk_simp
  erw [V3_eq]
  refine Eq.trans (congrArg _ (funext fun a => Fin.ext ?_)) h
  fin_cases a <;> blk_simp [(index_in t).2.1] <;> rfl

/-- The block of weights. -/
theorem blk2 (t : Fin cfg0.N) (e : Fin 160) (k : Fin 12288) :
    (iblk m c 2 t : Vec Ideal S160x12288 .bf16) (ix2 e k) = a2 m c (ix2 k e) := by
  have h : transpose S160x12288 [1, 0] (a2 m c) transposes_S12288x160_S160x12288_1_0 (ix2 e k) = a2 m c (ix2 k e) := by
    pointwise
  unfold iblk
  blk_simp
  erw [V0_eq]
  refine Eq.trans (congrArg _ (funext fun a => Fin.ext ?_)) h
  fin_cases a <;> blk_simp [(index_in t).2.2.1] <;> rfl

/-- The choices of every batch row. -/
theorem blk3 (t : Fin cfg0.N) (b : Fin 3) (k : Fin 6) (s : Fin 640) :
    (iblk m c 3 t : Vec Ideal S3x6x640 .i32) (ix3 b k s) = a3 m c (ix3 b s k) := by
  have h : transpose S3x6x640 [0, 2, 1] (a3 m c) transposes_S3x640x6_S3x6x640_0_2_1 (ix3 b k s) = a3 m c (ix3 b s k) := by
    pointwise
  unfold iblk
  blk_simp
  erw [V1_eq]
  refine Eq.trans (congrArg _ (funext fun a => Fin.ext ?_)) h
  fin_cases a <;> blk_simp [(index_in t).2.2.2.1] <;> rfl

/-- The block of choices. -/
theorem blk4 (t : Fin cfg0.N) (k : Fin 6) (s : Fin 640) :
    (iblk m c 4 t : Vec Ideal S1x6x640 .i32) (ix3 0 k s) = a3 m c (ix3 (row t) s k) := by
  have h : transpose S3x6x640 [0, 2, 1] (a3 m c) transposes_S3x640x6_S3x6x640_0_2_1 (ix3 (row t) k s) = a3 m c (ix3 (row t) s k) := by
    pointwise
  unfold iblk
  blk_simp
  erw [V1_eq]
  refine Eq.trans (congrArg _ (funext fun a => Fin.ext ?_)) h
  fin_cases a <;> blk_simp [(index_in t).2.2.2.2.1] <;> rfl

/-- The block of the gates' gradients. -/
theorem blk5 (t : Fin cfg0.N) (k : Fin 6) (s : Fin 640) :
    (iblk m c 5 t : Vec Ideal S1x6x640 .f32) (ix3 0 k s) = a4 m c (ix3 (row t) s k) := by
  have h : transpose S3x6x640 [0, 2, 1] (a4 m c) transposes_S3x640x6_S3x6x640_0_2_1 (ix3 (row t) k s) = a4 m c (ix3 (row t) s k) := by
    pointwise
  unfold iblk
  blk_simp
  erw [V2_eq]
  refine Eq.trans (congrArg _ (funext fun a => Fin.ext ?_)) h
  fin_cases a <;> blk_simp [(index_in t).2.2.2.2.2] <;> rfl

/-- The logits of token `s` of batch row `b`. -/
def zS (b : Fin 3) (s : Fin 640) : Fin 160 → EReal := fun e =>
  (∑ k : Fin 12288, a2 m c (ix2 k e) * a0 m c (ix3 b s k)) * a1 m c (ix2 b s)

/-- The loads of the experts. -/
def fS : Fin 160 → EReal := Spec.load fun b s k => a3 m c (ix3 b s k)

/-- The logits the blocks of point `t` give. -/
theorem zP_blk (t : Fin cfg0.N) (s : Fin 640) : Chunk.zP (iblk m c 0 t) (iblk m c 1 t) (iblk m c 2 t) s = zS m c (row t) s := by
  funext e
  simp only [Chunk.zP, zS, blk0, blk1, blk2]

/-- The loads the block of choices gives. -/
theorem loads_blk (t : Fin cfg0.N) (e : Fin 160) : Points.loads (iblk m c 3 t) (ix2 e 0) = fS m c e := by
  rw [Points.loads_apply]
  simp only [blk3]
  rfl

/-- The loads scratch after point `n`. -/
abbrev sc0 (n : ℕ) (hn : n < cfg0.N) : Vec Ideal S160x1 .f32 := (outsAt0 m c n hn).2.2.2.2.2.1

/-- The scratch of summed probabilities after point `n`. -/
abbrev sc1 (n : ℕ) (hn : n < cfg0.N) : Vec Ideal S160x128 .f32 := (outsAt0 m c n hn).2.2.2.2.2.2

/-- The chunk `j` logits of point `t`. -/
abbrev zT (t : Fin cfg0.N) (j : Fin 5) : FVec Ideal S160x128 .f32 := Points.zC (iblk m c 0 t) (iblk m c 1 t) (iblk m c 2 t) j

/-- What point `t` leaves: the loads scratch `F` with the loads, and over it the chunks stored along the rows and columns. -/
def PointEq (t : Fin cfg0.N) : Prop :=
  (∀ e, sc0 m c t.val t.isLt (ix2 e 0) = fS m c e)
  ∧ (outsAt0 m c t.val t.isLt).1 = Points.rows (fun j => Chunk.auxO (sc0 m c t.val t.isLt) (zT m c t j))
  ∧ (outsAt0 m c t.val t.isLt).2.1 = Points.rows (fun j => Chunk.zO (zT m c t j))
  ∧ (outsAt0 m c t.val t.isLt).2.2.2.1 = Points.rows (fun j => Chunk.lseO (zT m c t j))
  ∧ (outsAt0 m c t.val t.isLt).2.2.2.2.1 = Points.cols (fun j => Chunk.dlO (sc0 m c t.val t.isLt) (zT m c t j)
      (Points.wC (iblk m c 4 t) (iblk m c 5 t) j))

/-- The first point. -/
theorem pointA (t : Fin cfg0.N) (h0 : t.val % 3 = 0) (h1 : ¬t.val % 3 = 2) :
    PointEq m c t ∧ (∀ e l, sc1 m c t.val t.isLt (ix2 e l)
      = ∑ q, Spec.p (zS m c (row t) (Points.tok q l)) e) := by
  have hs : sc0 m c t.val t.isLt = Points.loads (iblk m c 3 t) := by
    refine (congrArg (fun x => x.2.2.2.2.2.1) (outsAt0_A m c t h0 h1)).trans ?_
    dsimp only
    rw [Points.sA_0]
  have h1' : sc1 m c t.val t.isLt =
      shapeCast S160x128 (Points.psum (iblk m c 0 t) (iblk m c 1 t) (iblk m c 2 t) (k0_pay40 (F := Ideal))) shapeCasts_S160x128_S160x128 := by
    refine (congrArg (fun x => x.2.2.2.2.2.2) (outsAt0_A m c t h0 h1)).trans ?_
    dsimp only
    rw [Points.sA_1]
  refine ⟨⟨fun e => ?_, ?_, ?_, ?_, ?_⟩, fun e l => ?_⟩
  · rw [hs, loads_blk]
  · rw [hs]; refine (congrArg (fun x => x.1) (outsAt0_A m c t h0 h1)).trans ?_
    dsimp only
    rw [Points.outA_6]
  · refine (congrArg (fun x => x.2.1) (outsAt0_A m c t h0 h1)).trans ?_
    dsimp only
    rw [Points.outA_7]
  · refine (congrArg (fun x => x.2.2.2.1) (outsAt0_A m c t h0 h1)).trans ?_
    dsimp only
    rw [Points.outA_9]
  · rw [hs]; refine (congrArg (fun x => x.2.2.2.2.1) (outsAt0_A m c t h0 h1)).trans ?_
    dsimp only
    rw [Points.outA_10]
  · refine (congrFun h1' _).trans ?_
    rw [Points.cast_apply, Points.psum_apply, Points.pay40_apply, zero_add]
    simp only [zP_blk]

/-- A point in between. -/
theorem pointB (t : Fin cfg0.N) (h0 : ¬t.val % 3 = 0) (h1 : ¬t.val % 3 = 2)
    (ih : ∀ e, sc0 m c (t.val - 1) (Nat.lt_of_le_of_lt (Nat.sub_le _ _) t.isLt) (ix2 e 0) = fS m c e) :
    PointEq m c t ∧ (∀ e l, sc1 m c t.val t.isLt (ix2 e l)
      = sc1 m c (t.val - 1) (Nat.lt_of_le_of_lt (Nat.sub_le _ _) t.isLt) (ix2 e l) + ∑ q, Spec.p (zS m c (row t) (Points.tok q l)) e) := by
  have hs : sc0 m c t.val t.isLt = sc0 m c (t.val - 1) (Nat.lt_of_le_of_lt (Nat.sub_le _ _) t.isLt) := by
    exact (congrArg (fun x => x.2.2.2.2.2.1) (outsAt0_B m c t h0 h1))
  have h1' : sc1 m c t.val t.isLt =
      shapeCast S160x128 (Points.psum (iblk m c 0 t) (iblk m c 1 t) (iblk m c 2 t) (sc1 m c (t.val - 1) (Nat.lt_of_le_of_lt (Nat.sub_le _ _) t.isLt))) shapeCasts_S160x128_S160x128 := by
    refine (congrArg (fun x => x.2.2.2.2.2.2) (outsAt0_B m c t h0 h1)).trans ?_
    dsimp only
    rw [Points.sB_1]
  refine ⟨⟨fun e => ?_, ?_, ?_, ?_, ?_⟩, fun e l => ?_⟩
  · rw [hs, ih]
  · rw [hs]; refine (congrArg (fun x => x.1) (outsAt0_B m c t h0 h1)).trans ?_
    dsimp only
    rw [Points.outB_6]
  · refine (congrArg (fun x => x.2.1) (outsAt0_B m c t h0 h1)).trans ?_
    dsimp only
    rw [Points.outB_7]
  · refine (congrArg (fun x => x.2.2.2.1) (outsAt0_B m c t h0 h1)).trans ?_
    dsimp only
    rw [Points.outB_9]
  · rw [hs]; refine (congrArg (fun x => x.2.2.2.2.1) (outsAt0_B m c t h0 h1)).trans ?_
    dsimp only
    rw [Points.outB_10]
  · refine (congrFun h1' _).trans ?_
    rw [Points.cast_apply, Points.psum_apply]
    simp only [zP_blk]

/-- The last point. -/
theorem pointC (t : Fin cfg0.N) (h0 : ¬t.val % 3 = 0) (h1 : t.val % 3 = 2)
    (ih : ∀ e, sc0 m c (t.val - 1) (Nat.lt_of_le_of_lt (Nat.sub_le _ _) t.isLt) (ix2 e 0) = fS m c e) :
    PointEq m c t ∧ (∀ e l, sc1 m c t.val t.isLt (ix2 e l)
      = sc1 m c (t.val - 1) (Nat.lt_of_le_of_lt (Nat.sub_le _ _) t.isLt) (ix2 e l) + ∑ q, Spec.p (zS m c (row t) (Points.tok q l)) e)
    ∧ ∀ e, (outsAt0 m c t.val t.isLt).2.2.1 (ix2 0 e)
      = (∑ l, (sc1 m c (t.val - 1) (Nat.lt_of_le_of_lt (Nat.sub_le _ _) t.isLt) (ix2 e l) + ∑ q, Spec.p (zS m c (row t) (Points.tok q l)) e)) * Ideal.ofBits .f32 0x3A088889#32 := by
  have hs : sc0 m c t.val t.isLt = sc0 m c (t.val - 1) (Nat.lt_of_le_of_lt (Nat.sub_le _ _) t.isLt) := by
    exact (congrArg (fun x => x.2.2.2.2.2.1) (outsAt0_C m c t h0 h1))
  have h1' : sc1 m c t.val t.isLt =
      shapeCast S160x128 (Points.psum (iblk m c 0 t) (iblk m c 1 t) (iblk m c 2 t) (sc1 m c (t.val - 1) (Nat.lt_of_le_of_lt (Nat.sub_le _ _) t.isLt))) shapeCasts_S160x128_S160x128 := by
    refine (congrArg (fun x => x.2.2.2.2.2.2) (outsAt0_C m c t h0 h1)).trans ?_
    dsimp only
    rw [Points.sC_1]
  refine ⟨⟨fun e => ?_, ?_, ?_, ?_, ?_⟩, fun e l => ?_, fun e => ?_⟩
  · rw [hs, ih]
  · rw [hs]; refine (congrArg (fun x => x.1) (outsAt0_C m c t h0 h1)).trans ?_
    dsimp only
    rw [Points.outC_6]
  · refine (congrArg (fun x => x.2.1) (outsAt0_C m c t h0 h1)).trans ?_
    dsimp only
    rw [Points.outC_7]
  · refine (congrArg (fun x => x.2.2.2.1) (outsAt0_C m c t h0 h1)).trans ?_
    dsimp only
    rw [Points.outC_9]
  · rw [hs]; refine (congrArg (fun x => x.2.2.2.2.1) (outsAt0_C m c t h0 h1)).trans ?_
    dsimp only
    rw [Points.outC_10]
  · refine (congrFun h1' _).trans ?_
    rw [Points.cast_apply, Points.psum_apply]
    simp only [zP_blk]
  · have h8 : (outsAt0 m c t.val t.isLt).2.2.1 = k0_pay1 (F := Ideal)
        (Points.psum (iblk m c 0 t) (iblk m c 1 t) (iblk m c 2 t) (sc1 m c (t.val - 1) (Nat.lt_of_le_of_lt (Nat.sub_le _ _) t.isLt))) := by
      refine (congrArg (fun x => x.2.2.1) (outsAt0_C m c t h0 h1)).trans ?_
      dsimp only
      rw [Points.outC_8]
    refine (congrFun h8 _).trans ?_
    rw [Points.pay1_apply]
    simp only [Points.psum_apply, zP_blk]

/-- Every point leaves its chunks over the loads. -/
theorem point_all (t : Fin cfg0.N) : PointEq m c t := by
  have p0 := (pointA m c ⟨0, by decide⟩ rfl (by decide)).1
  have p1 := (pointB m c ⟨1, by decide⟩ (by decide) (by decide) p0.1).1
  have p2 := (pointC m c ⟨2, by decide⟩ (by decide) rfl p1.1).1
  fin_cases t
  · exact p0
  · exact p1
  · exact p2

/-- What the last point leaves of the mean probabilities: the sum over every token, scaled. -/
theorem mean_last (t : Fin cfg0.N) (ht : t.val = 2) (e : Fin 160) : (outsAt0 m c t.val t.isLt).2.2.1 (ix2 0 e)
    = (∑ b, ∑ s, Spec.p (zS m c b s) e) * Ideal.ofBits .f32 0x3A088889#32 := by
  obtain rfl : t = ⟨2, by decide⟩ := Fin.ext ht
  obtain ⟨p0, q0⟩ := pointA m c ⟨0, by decide⟩ rfl (by decide)
  obtain ⟨p1, q1⟩ := pointB m c ⟨1, by decide⟩ (by decide) (by decide) p0.1
  refine ((pointC m c ⟨2, by decide⟩ (by decide) rfl p1.1).2.2 e).trans (congrArg (· * _) ?_)
  simp only [← Points.sum_tok fun s => Spec.p (zS m c _ s) e, Fin.sum_univ_three, ← Finset.sum_add_distrib]
  refine Finset.sum_congr rfl fun l _ => ?_
  rw [Finset.sum_add_distrib, Finset.sum_add_distrib]
  exact congrArg (fun x => x + ∑ q, Spec.p (zS m c 2 (Points.tok q l)) e)
    ((q1 e l).trans (congrArg (fun x => x + ∑ q, Spec.p (zS m c 1 (Points.tok q l)) e) (q0 e l)))

/-- Where the blocks of the outputs lie: at the point's batch row, or whole. -/
theorem index_out : ∀ t : Fin cfg0.N, win0_6.index t = ![(row t).val, 0, 0] ∧ win0_7.index t = ![(row t).val, 0, 0]
    ∧ win0_8.index t = ![0, 0] ∧ win0_9.index t = ![(row t).val, 0, 0] ∧ win0_10.index t = ![(row t).val, 0, 0] := by
  decide +kernel

/-- The loads a point's chunks use. -/
theorem sc0_eq (t : Fin cfg0.N) : (fun e => sc0 m c t.val t.isLt (ix2 e 0)) = fS m c := funext (point_all m c t).1

/-- A point's row of load-balancing terms. -/
theorem pt6 (t : Fin cfg0.N) (y : S1x1x640.Idx) : (outsAt0 m c t.val t.isLt).1 y = Spec.aux (zS m c (row t) (y 2)) (fS m c) := by
  rw [(point_all m c t).2.1]
  refine (Points.aux_apply _ _ _ _ _).trans ?_
  rw [sc0_eq m c t]
  exact congrArg (fun z => Spec.aux z (fS m c)) (zP_blk m c t (y 2))

/-- Where a point's row of load-balancing terms lies in its array. -/
theorem emb6 (t : Fin cfg0.N) (y : S1x1x640.Idx) : (win0_6.blk t).view.emb y = ix3 (row t) 0 (y 2) := by
  refine funext fun a => Fin.ext ?_
  fin_cases a <;> blk_simp [(index_out t).1] <;> rfl

/-- The array of load-balancing terms. -/
theorem arr6 (G : Vec Ideal S3x1x640 .f32) (hG : ∀ b s, G (ix3 b 0 s) = Spec.aux (zS m c b s) (fS m c)) :
    (dats m 0 c).arrAt 6 cfg0.N = G := by
  refine (dats m 0 c).arrAt_eq_of_covers 6 _ (by decide +kernel) fun t hf y => ?_
  blk_simp
  rw [after0_6]
  erw [emb6, hG]
  exact pt6 m c t y

/-- A point's row of z-loss terms. -/
theorem pt7 (t : Fin cfg0.N) (y : S1x1x640.Idx) : (outsAt0 m c t.val t.isLt).2.1 y = Spec.zl (zS m c (row t) (y 2)) := by
  rw [(point_all m c t).2.2.1]
  refine (Points.zl_apply _ _ _ _).trans ?_
  exact congrArg Spec.zl (zP_blk m c t (y 2))

/-- Where a point's row of z-loss terms lies in its array. -/
theorem emb7 (t : Fin cfg0.N) (y : S1x1x640.Idx) : (win0_7.blk t).view.emb y = ix3 (row t) 0 (y 2) := by
  refine funext fun a => Fin.ext ?_
  fin_cases a <;> blk_simp [(index_out t).2.1] <;> rfl

/-- The array of z-loss terms. -/
theorem arr7 (G : Vec Ideal S3x1x640 .f32) (hG : ∀ b s, G (ix3 b 0 s) = Spec.zl (zS m c b s)) :
    (dats m 0 c).arrAt 7 cfg0.N = G := by
  refine (dats m 0 c).arrAt_eq_of_covers 7 _ (by decide +kernel) fun t hf y => ?_
  blk_simp
  rw [after0_7]
  erw [emb7, hG]
  exact pt7 m c t y

/-- A point's row of log-sum-exps. -/
theorem pt9 (t : Fin cfg0.N) (y : S1x1x640.Idx) : (outsAt0 m c t.val t.isLt).2.2.2.1 y = Spec.lse (zS m c (row t) (y 2)) := by
  rw [(point_all m c t).2.2.2.1]
  refine (Points.lse_apply _ _ _ _).trans ?_
  exact congrArg Spec.lse (zP_blk m c t (y 2))

/-- Where a point's row of log-sum-exps lies in its array. -/
theorem emb9 (t : Fin cfg0.N) (y : S1x1x640.Idx) : (win0_9.blk t).view.emb y = ix3 (row t) 0 (y 2) := by
  refine funext fun a => Fin.ext ?_
  fin_cases a <;> blk_simp [(index_out t).2.2.2.1] <;> rfl

/-- The array of log-sum-exps. -/
theorem arr9 (G : Vec Ideal S3x1x640 .f32) (hG : ∀ b s, G (ix3 b 0 s) = Spec.lse (zS m c b s)) :
    (dats m 0 c).arrAt 9 cfg0.N = G := by
  refine (dats m 0 c).arrAt_eq_of_covers 9 _ (by decide +kernel) fun t hf y => ?_
  blk_simp
  rw [after0_9]
  erw [emb9, hG]
  exact pt9 m c t y

/-- A point's block of gradients, when every token's experts are distinct. -/
theorem pt10 (hd : ∀ b s i j, i = j ∨ a3 m c (ix3 b s i) ≠ a3 m c (ix3 b s j)) (t : Fin cfg0.N) (y : S1x160x640.Idx) :
    (outsAt0 m c t.val t.isLt).2.2.2.2.1 y = Spec.dl (zS m c (row t) (y 2)) (fS m c) (fun k => a3 m c (ix3 (row t) (y 2) k))
      (fun k => a4 m c (ix3 (row t) (y 2) k)) (y 1) := by
  rw [(point_all m c t).2.2.2.2]
  refine (Points.dl_apply _ _ _ _ _ _ (fun s i j => ?_) _).trans ?_
  · simp only [blk4]
    exact hd _ _ _ _
  · rw [sc0_eq m c t]
    refine (congrArg (fun z => Spec.dl z _ _ _ _) (zP_blk m c t (y 2))).trans ?_
    exact congrArg₂ (fun a v => Spec.dl _ _ a v _) (funext fun k => blk4 m c t k (y 2)) (funext fun k => blk5 m c t k (y 2))

/-- Where a point's block of gradients lies in its array. -/
theorem emb10 (t : Fin cfg0.N) (y : S1x160x640.Idx) : (win0_10.blk t).view.emb y = ix3 (row t) (y 1) (y 2) := by
  refine funext fun a => Fin.ext ?_
  fin_cases a <;> blk_simp [(index_out t).2.2.2.2] <;> rfl

/-- The array of gradients. -/
theorem arr10 (hd : ∀ b s i j, i = j ∨ a3 m c (ix3 b s i) ≠ a3 m c (ix3 b s j)) (G : Vec Ideal S3x160x640 .f32)
    (hG : ∀ b e s, G (ix3 b e s) = Spec.dl (zS m c b s) (fS m c) (fun k => a3 m c (ix3 b s k)) (fun k => a4 m c (ix3 b s k)) e) :
    (dats m 0 c).arrAt 10 cfg0.N = G := by
  refine (dats m 0 c).arrAt_eq_of_covers 10 _ (by decide +kernel) fun t hf y => ?_
  blk_simp
  rw [after0_10]
  erw [emb10, hG]
  exact pt10 m c hd t y

/-- The mean probabilities are written back at the last point only. -/
theorem flush8 : ∀ t : Fin cfg0.N, (cfg0.win 8).flush t = true → t.val = 2 := by decide +kernel

/-- The block of mean probabilities is its array. -/
theorem emb8 (t : Fin cfg0.N) (y : S1x160.Idx) : (win0_8.blk t).view.emb y = ix2 0 (y 1) := by
  refine funext fun a => Fin.ext ?_
  fin_cases a <;> blk_simp [(index_out t).2.2.1]
  all_goals rfl

/-- An index of a one-row array is its column. -/
theorem row_eq (y : S1x160.Idx) : y = ix2 0 (y 1) := by
  refine funext fun a => ?_
  fin_cases a
  · exact Subsingleton.elim (α := Fin 1) _ _
  · rfl

/-- The array of mean probabilities. -/
theorem arr8 (G : Vec Ideal S1x160 .f32)
    (hG : ∀ e, G (ix2 0 e) = (∑ b, ∑ s, Spec.p (zS m c b s) e) * Ideal.ofBits .f32 0x3A088889#32) :
    (dats m 0 c).arrAt 8 cfg0.N = G := by
  refine (dats m 0 c).arrAt_eq_of_covers 8 _ (by decide +kernel) fun t hf y => ?_
  blk_simp
  rw [after0_8]
  erw [emb8, hG]
  rw [row_eq y]
  exact mean_last m c t (flush8 t hf) _

end Cert.KernelIdeal.Arrays
-- ==== Proof.Results.lean ====
module

public import proofs.«01_k».proof.Proof.Arrays

@[expose] public section

set_option maxRecDepth 16384

/-! The kernel's results after the run, read at an index. -/

noncomputable section

namespace Cert.KernelIdeal.Results

open Idealize.ShloMosaic Idealize.SL.Sem Gen Arrays
open Idealize.ShloMosaic.Pointwise

variable (m : (ℓ : Loc nD τ sig) → Buf (Elt Ideal) ℓ) (c : Dev nD)

/-- What the region leaves in a window's array. -/
abbrev arr (w : Fin cfg0.W) := (dats m 0 c).arrAt w cfg0.N

/-- The buffers when the region is left. -/
abbrev exitV : Valuation τ sig (Elt Ideal) := Pipeline.withArrays spec0 c (V0 m c) fun w => (dats m 0 c).arrAt w cfg0.N

/-- Window 6's array when the region is left. -/
theorem exit6 : exitV m c (Proc.devRef .tc main_v4_0) = arr m c 6 :=
  Pipeline.withArrays_arr_shared spec0 c (V0 m c) _ ((dats m 0 c).arrAt_sharedIn sharedIn0 (V0 m c) (A_eq m c) cfg0.N) 6

/-- Window 7's array when the region is left. -/
theorem exit7 : exitV m c (Proc.devRef .tc main_v4_1) = arr m c 7 :=
  Pipeline.withArrays_arr_shared spec0 c (V0 m c) _ ((dats m 0 c).arrAt_sharedIn sharedIn0 (V0 m c) (A_eq m c) cfg0.N) 7

/-- Window 8's array when the region is left. -/
theorem exit8 : exitV m c (Proc.devRef .tc main_v4_2) = arr m c 8 :=
  Pipeline.withArrays_arr_shared spec0 c (V0 m c) _ ((dats m 0 c).arrAt_sharedIn sharedIn0 (V0 m c) (A_eq m c) cfg0.N) 8

/-- Window 9's array when the region is left. -/
theorem exit9 : exitV m c (Proc.devRef .tc main_v4_3) = arr m c 9 :=
  Pipeline.withArrays_arr_shared spec0 c (V0 m c) _ ((dats m 0 c).arrAt_sharedIn sharedIn0 (V0 m c) (A_eq m c) cfg0.N) 9

/-- Window 10's array when the region is left. -/
theorem exit10 : exitV m c (Proc.devRef .tc main_v4_4) = arr m c 10 :=
  Pipeline.withArrays_arr_shared spec0 c (V0 m c) _ ((dats m 0 c).arrAt_sharedIn sharedIn0 (V0 m c) (A_eq m c) cfg0.N) 10

/-- The result of load-balancing terms: its array, reshaped. -/
theorem fin5 : Pipeline.afterTail₀ cfgs (dats m) 0 (V0 m) [hostOps1] c main_v5 =
    shapeCast S3x640 (arr m c 6 : Vec Ideal S3x1x640 .f32) shapeCasts_S3x1x640_S3x640 := by
  refine Eq.trans (b := StableHlo.after hostOps1 (exitV m c) (Proc.devRef .tc main_v5)) rfl ?_
  rw [← exit6]
  generalize exitV m c = V
  dsimp only [hostOps1]
  after_results
  rfl

/-- The result of z-loss terms: its array, reshaped. -/
theorem fin6 : Pipeline.afterTail₀ cfgs (dats m) 0 (V0 m) [hostOps1] c main_v6 =
    shapeCast S3x640 (arr m c 7 : Vec Ideal S3x1x640 .f32) shapeCasts_S3x1x640_S3x640 := by
  refine Eq.trans (b := StableHlo.after hostOps1 (exitV m c) (Proc.devRef .tc main_v6)) rfl ?_
  rw [← exit7]
  generalize exitV m c = V
  dsimp only [hostOps1]
  after_results
  rfl

/-- The result of mean probabilities: its array, reshaped. -/
theorem fin7 : Pipeline.afterTail₀ cfgs (dats m) 0 (V0 m) [hostOps1] c main_v7 =
    shapeCast S160 (arr m c 8 : Vec Ideal S1x160 .f32) shapeCasts_S1x160_S160 := by
  refine Eq.trans (b := StableHlo.after hostOps1 (exitV m c) (Proc.devRef .tc main_v7)) rfl ?_
  rw [← exit8]
  generalize exitV m c = V
  dsimp only [hostOps1]
  after_results
  rfl

/-- The result of log-sum-exps: its array, reshaped. -/
theorem fin8 : Pipeline.afterTail₀ cfgs (dats m) 0 (V0 m) [hostOps1] c main_v8 =
    shapeCast S3x640 (arr m c 9 : Vec Ideal S3x1x640 .f32) shapeCasts_S3x1x640_S3x640 := by
  refine Eq.trans (b := StableHlo.after hostOps1 (exitV m c) (Proc.devRef .tc main_v8)) rfl ?_
  rw [← exit9]
  generalize exitV m c = V
  dsimp only [hostOps1]
  after_results
  rfl

/-- The result of gradients: its array, transposed. -/
theorem fin9 : Pipeline.afterTail₀ cfgs (dats m) 0 (V0 m) [hostOps1] c main_v9 =
    transpose S3x640x160 [0, 2, 1] (arr m c 10 : Vec Ideal S3x160x640 .f32) transposes_S3x160x640_S3x640x160_0_2_1 := by
  refine Eq.trans (b := StableHlo.after hostOps1 (exitV m c) (Proc.devRef .tc main_v9)) rfl ?_
  rw [← exit10]
  generalize exitV m c = V
  dsimp only [hostOps1]
  after_results

/-- Every run ends with the results at the region's arrays, reshaped, and the arguments unchanged. -/
theorem run (ρ : Dev nD → PrngReg) : θ_run defs (onTc (τ := τ) (main (F := Ideal))) ⟨m, fun _ => 0, ρ⟩ fun r => ∀ c : Dev nD,
      r.2.mem (c.tc.loc main_v5) = shapeCast S3x640 (arr m c 6 : Vec Ideal S3x1x640 .f32) shapeCasts_S3x1x640_S3x640
      ∧ r.2.mem (c.tc.loc main_v6) = shapeCast S3x640 (arr m c 7 : Vec Ideal S3x1x640 .f32) shapeCasts_S3x1x640_S3x640
      ∧ r.2.mem (c.tc.loc main_v7) = shapeCast S160 (arr m c 8 : Vec Ideal S1x160 .f32) shapeCasts_S1x160_S160
      ∧ r.2.mem (c.tc.loc main_v8) = shapeCast S3x640 (arr m c 9 : Vec Ideal S3x1x640 .f32) shapeCasts_S3x1x640_S3x640
      ∧ r.2.mem (c.tc.loc main_v9) = transpose S3x640x160 [0, 2, 1] (arr m c 10 : Vec Ideal S3x160x640 .f32) transposes_S3x160x640_S3x640x160_0_2_1
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨((h.1 c).2 main_v5 (Pipeline.mem_restRefs_of main_v5 (by decide) (by decide))).trans (fin5 m c),
      ((h.1 c).2 main_v6 (Pipeline.mem_restRefs_of main_v6 (by decide) (by decide))).trans (fin6 m c),
      ((h.1 c).2 main_v7 (Pipeline.mem_restRefs_of main_v7 (by decide) (by decide))).trans (fin7 m c),
      ((h.1 c).2 main_v8 (Pipeline.mem_restRefs_of main_v8 (by decide) (by decide))).trans (fin8 m c),
      ((h.1 c).2 main_v9 (Pipeline.mem_restRefs_of main_v9 (by decide) (by decide))).trans (fin9 m c), h.2 c⟩)
    (θ_run_and (run_main m ρ) (unchanged m ρ))

/-- An array of rows with given entries. -/
theorem ex_rows (F : Fin 3 → Fin 640 → EReal) : ∃ G : Vec Ideal S3x1x640 .f32, ∀ b s, G (ix3 b 0 s) = F b s :=
  ⟨fun y => F (y 0) (y 2), fun _ _ => rfl⟩

/-- A row with given entries. -/
theorem ex_row (F : Fin 160 → EReal) : ∃ G : Vec Ideal S1x160 .f32, ∀ e, G (ix2 0 e) = F e :=
  ⟨fun y => F (y 1), fun _ => rfl⟩

/-- An array of blocks with given entries. -/
theorem ex_blocks (F : Fin 3 → Fin 160 → Fin 640 → EReal) : ∃ G : Vec Ideal S3x160x640 .f32, ∀ b e s, G (ix3 b e s) = F b e s :=
  ⟨fun y => F (y 0) (y 1) (y 2), fun _ _ _ => rfl⟩

/-- Rows without their unit axis. -/
theorem cast_rows (A : Vec Ideal S3x1x640 .f32) (b : Fin 3) (s : Fin 640) :
    shapeCast S3x640 A shapeCasts_S3x1x640_S3x640 (ix2 b s) = A (ix3 b 0 s) := by
  pointwise

/-- A row without its unit axis. -/
theorem cast_row (A : Vec Ideal S1x160 .f32) (e : Fin 160) : shapeCast S160 A shapeCasts_S1x160_S160 (ix1 e) = A (ix2 0 e) := by
  pointwise

/-- Blocks with tokens before experts. -/
theorem cast_blocks (A : Vec Ideal S3x160x640 .f32) (b : Fin 3) (s : Fin 640) (e : Fin 160) :
    transpose S3x640x160 [0, 2, 1] A transposes_S3x160x640_S3x640x160_0_2_1 (ix3 b s e) = A (ix3 b e s) := by
  pointwise

/-- The kernel's load-balancing terms. -/
theorem res5 (b : Fin 3) (s : Fin 640) : shapeCast S3x640 (arr m c 6 : Vec Ideal S3x1x640 .f32) shapeCasts_S3x1x640_S3x640 (ix2 b s) = Spec.aux (zS m c b s) (fS m c) := by
  obtain ⟨G, hG⟩ := ex_rows fun b s => Spec.aux (zS m c b s) (fS m c)
  rw [cast_rows]
  exact (congrFun (arr6 m c G hG) _).trans (hG b s)

/-- The kernel's z-loss terms. -/
theorem res6 (b : Fin 3) (s : Fin 640) : shapeCast S3x640 (arr m c 7 : Vec Ideal S3x1x640 .f32) shapeCasts_S3x1x640_S3x640 (ix2 b s) = Spec.zl (zS m c b s) := by
  obtain ⟨G, hG⟩ := ex_rows fun b s => Spec.zl (zS m c b s)
  rw [cast_rows]
  exact (congrFun (arr7 m c G hG) _).trans (hG b s)

/-- The kernel's mean probabilities. -/
theorem res7 (e : Fin 160) : shapeCast S160 (arr m c 8 : Vec Ideal S1x160 .f32) shapeCasts_S1x160_S160 (ix1 e) = (∑ b, ∑ s, Spec.p (zS m c b s) e) * Ideal.ofBits .f32 0x3A088889#32 := by
  obtain ⟨G, hG⟩ := ex_row fun e => (∑ b, ∑ s, Spec.p (zS m c b s) e) * Ideal.ofBits .f32 0x3A088889#32
  rw [cast_row]
  exact (congrFun (arr8 m c G hG) _).trans (hG e)

/-- The kernel's log-sum-exps. -/
theorem res8 (b : Fin 3) (s : Fin 640) : shapeCast S3x640 (arr m c 9 : Vec Ideal S3x1x640 .f32) shapeCasts_S3x1x640_S3x640 (ix2 b s) = Spec.lse (zS m c b s) := by
  obtain ⟨G, hG⟩ := ex_rows fun b s => Spec.lse (zS m c b s)
  rw [cast_rows]
  exact (congrFun (arr9 m c G hG) _).trans (hG b s)

/-- The kernel's gradients, when every token's experts are distinct. -/
theorem res9 (hd : ∀ b s i j, i = j ∨ a3 m c (ix3 b s i) ≠ a3 m c (ix3 b s j)) (b : Fin 3) (s : Fin 640) (e : Fin 160) :
    transpose S3x640x160 [0, 2, 1] (arr m c 10 : Vec Ideal S3x160x640 .f32) transposes_S3x160x640_S3x640x160_0_2_1 (ix3 b s e) = Spec.dl (zS m c b s) (fS m c) (fun k => a3 m c (ix3 b s k)) (fun k => a4 m c (ix3 b s k)) e := by
  obtain ⟨G, hG⟩ := ex_blocks fun b e s => Spec.dl (zS m c b s) (fS m c) (fun k => a3 m c (ix3 b s k)) (fun k => a4 m c (ix3 b s k)) e
  rw [cast_blocks]
  exact (congrFun (arr10 m c hd G hG) _).trans (hG b e s)

end Cert.KernelIdeal.Results
-- ==== Proof.Ref.lean ====
module

public import proofs.«01_k».proof.Proof.Spec
public import proofs.«01_k».proof.Proof.Gen.ReferenceIdeal.Run
public import proofs.«01_k».proof.Proof.Gen.ReferenceIdeal.Read
public import Idealize.ShloMosaic.Lib.Pointwise
public import Idealize.ShloMosaic.Lib.Pipeline.ValueKit
public import Idealize.ShloMosaic.Lib.Claim
public import proofs.«01_k».proof.Proof.Gen.ReferenceIdeal.Frame

@[expose] public section

/-! The reference's values as the formulas of `Spec`, token by token. -/

noncomputable section

namespace Cert.ReferenceIdeal.Ref

open Idealize.ShloMosaic Idealize.SL.Sem Gen Read
open Idealize.ShloMosaic.Pointwise

variable (x1 : Vec Ideal S3x640 .f32) (x2 : Vec Ideal S12288x160 .bf16) (x3 : Vec Ideal S3x640x6 .i32)
  (x4 : Vec Ideal S3x640x6 .f32) (r0 : Vec Ideal S3x640x12288 .bf16)

/-- A token's logits. -/
def z (b : Fin 3) (s : Fin 640) : Fin 160 → EReal := fun e => (∑ k, x2 (ix2 k e) * r0 (ix3 b s k)) * x1 (ix2 b s)

/-- The loads of the experts. -/
def f : Fin 160 → EReal := Spec.load fun b s k => x3 (ix3 b s k)

/-- The entries of a token-by-expert array that fall on one expert are those of the tokens. -/
theorem drop01 (e : Fin 160) (i : S3x640x160.Idx) :
    reducesTo_S3x640x160_S160_d0_1.drop i = ix1 e ↔ ∃ k : Fin 3 × Fin 640, (ix3 k.1 k.2 e : S3x640x160.Idx) = i := by
  constructor
  · intro h
    refine ⟨(i 0, i 1), funext fun a => Fin.ext ?_⟩
    match a with
    | ⟨0, _⟩ => rfl
    | ⟨1, _⟩ => rfl
    | ⟨2, _⟩ => exact (congrArg Fin.val (congrFun h 0)).symm
  · rintro ⟨k, rfl⟩
    refine funext fun a => Fin.ext ?_
    match a with
    | ⟨0, _⟩ => rfl

/-- The entries of a choice-by-expert array that fall on one expert are those of the choices. -/
theorem drop012 (e : Fin 160) (i : S3x640x6x160.Idx) :
    reducesTo_S3x640x6x160_S160_d0_1_2.drop i = ix1 e ↔ ∃ k : Fin 3 × Fin 640 × Fin 6, (ix4 k.1 k.2.1 k.2.2 e : S3x640x6x160.Idx) = i := by
  constructor
  · intro h
    refine ⟨(i 0, i 1, i 2), funext fun a => Fin.ext ?_⟩
    match a with
    | ⟨0, _⟩ => rfl
    | ⟨1, _⟩ => rfl
    | ⟨2, _⟩ => rfl
    | ⟨3, _⟩ => exact (congrArg Fin.val (congrFun h 0)).symm
  · rintro ⟨k, rfl⟩
    refine funext fun a => Fin.ext ?_
    match a with
    | ⟨0, _⟩ => rfl

/-- The reference's logits. -/
theorem z_eq (b : Fin 3) (s : Fin 640) (e : Fin 160) : val_main_v15 x1 x2 r0 (ix3 b s e) = z x1 x2 r0 b s e := by
  pointwise [val_main_v15, val_main_v14, val_main_v13, val_main_v12, z]
  simp only [mul_comm (r0 _)]

/-- The reference's log-sum-exps. -/
theorem lse_eq (b : Fin 3) (s : Fin 640) : val_main_v18 x1 x2 r0 (ix2 b s) = Spec.lse (z x1 x2 r0 b s) := by
  have h : val_main_v17 x1 x2 r0 (ix2 b s) = ∑ e, Ideal.exp (val_main_v15 x1 x2 r0 (ix3 b s e)) := by
    rw [val_main_v17_apply]
    pointwise [val_main_cst_0]
    refine Finset.sum_congr rfl fun e _ => ?_
    have hi : idx_main_v17 (ix2 b s) e = ix3 b s e := funext fun a => Fin.ext (by match a with | ⟨0, _⟩ => rfl | ⟨1, _⟩ => rfl | ⟨2, _⟩ => rfl)
    rw [hi]
    pointwise [val_main_v16]
  pointwise [val_main_v18, Spec.lse]
  rw [h]
  simp only [z_eq]

/-- The reference's probabilities. -/
theorem p_eq (b : Fin 3) (s : Fin 640) (e : Fin 160) : val_main_v22 x1 x2 r0 (ix3 b s e) = Spec.p (z x1 x2 r0 b s) e := by
  pointwise [val_main_v22, val_main_v21, val_main_v20, val_main_v19, Spec.p]
  rw [z_eq, lse_eq]

/-- The reference's mean probabilities. -/
theorem P_eq (e : Fin 160) : val_main_v25 x1 x2 r0 (ix1 e) = (∑ b, ∑ s, Spec.p (z x1 x2 r0 b s) e) * Ideal.ofBits .f32 0x3A088889#32 := by
  pointwise [val_main_v25, val_main_v24, val_main_v23, val_main_cst_1, val_main_cst_2]
  refine congrArg (· * _) ?_
  unfold Ideal.hostReduceAdd
  rw [Finset.sum_filter_eq_sum_of_fiber _ (fun k : Fin 3 × Fin 640 => (ix3 k.1 k.2 e : S3x640x160.Idx))
    (fun _ _ h => Prod.ext (congrFun h 0) (congrFun h 1)) (drop01 e), zero_add, Fintype.sum_prod_type]
  simp only [p_eq]

/-- The reference's one-hot comparison. -/
theorem hot (b : Fin 3) (s : Fin 640) (k : Fin 6) (e : Fin 160) :
    val_main_v6 (F := Ideal) x3 (ix4 b s k e) = if BitVec.ofNat 32 e = x3 (ix3 b s k) then 1#1 else 0#1 := by
  pointwise [val_main_v6, val_main_v5, val_main_v4, val_main_v3, val_main_v2, val_main_v1]
  unfold IntOp.cmpi
  by_cases h : BitVec.ofNat 32 e = x3 (ix3 b s k)
  · simp [h]
  · simp [h, beq_eq_false_iff_ne.mpr (Ne.symm h)]

/-- The reference's count of the choices that name an expert. -/
theorem cnt_eq (e : Fin 160) : val_main_v8 (F := Ideal) x3 (ix1 e) = Spec.cnt (fun b s k => x3 (ix3 b s k)) e := by
  pointwise [val_main_v8, val_main_c]
  have hs : ∀ S : Finset S3x640x6x160.Idx, Finset.fold IntOp.addi (0#32) (val_main_v7 (F := Ideal) x3) S = S.sum (val_main_v7 (F := Ideal) x3) :=
    fun S => (Finset.sum_eq_fold S _).symm
  rw [hs, Finset.sum_filter_eq_sum_of_fiber _ (fun k : Fin 3 × Fin 640 × Fin 6 => (ix4 k.1 k.2.1 k.2.2 e : S3x640x6x160.Idx))
    (fun _ _ h => Prod.ext (congrFun h 0) (Prod.ext (congrFun h 1) (congrFun h 2))) (drop012 e), Spec.cnt]
  simp only [Fintype.sum_prod_type]
  refine Finset.sum_congr rfl fun b _ => Finset.sum_congr rfl fun s _ => Finset.sum_congr rfl fun k _ => ?_
  pointwise [val_main_v7]
  rw [hot]
  split <;> rfl

/-- The reference's loads. -/
theorem f_eq (e : Fin 160) : val_main_v11 (F := Ideal) x3 (ix1 e) = f x3 e := by
  pointwise [val_main_v11, val_main_v10, val_main_v9, val_main_cst, f, Spec.load]
  rw [cnt_eq]
  rfl

/-- The reference's gradients of the gates, spread over the experts. -/
theorem dp_eq (b : Fin 3) (s : Fin 640) (e : Fin 160) : val_main_v37 x3 x4 (ix3 b s e) = Spec.dp (fun k => x3 (ix3 b s k)) (fun k => x4 (ix3 b s k)) e := by
  pointwise [val_main_v37, val_main_v36, val_main_call0_v2, val_main_call0_v1, val_main_call0_v0, val_main_v35, val_main_cst_6, val_main_cst_7, Spec.dp]
  refine Finset.sum_congr rfl fun k _ => ?_
  rw [hot]
  split
  · rfl
  · exact Ideal.ofBits_zero_f32

/-- The reference's weighted loads. -/
theorem g_eq (b : Fin 3) (s : Fin 640) : val_main_v29 x1 x2 x3 r0 (ix2 b s) = Spec.g (z x1 x2 r0 b s) (f x3) := by
  pointwise [val_main_v29, val_main_v28, val_main_v27, val_main_v26, val_main_cst_3, Spec.g]
  simp only [p_eq, f_eq]

/-- The reference's load-balancing terms. -/
theorem aux_eq (b : Fin 3) (s : Fin 640) : val_main_v31 x1 x2 x3 r0 (ix2 b s) = Spec.aux (z x1 x2 r0 b s) (f x3) := by
  pointwise [val_main_v31, val_main_v30, val_main_cst_4, Spec.aux]
  rw [g_eq]

/-- The reference's z-loss terms. -/
theorem zl_eq (b : Fin 3) (s : Fin 640) : val_main_v34 x1 x2 r0 (ix2 b s) = Spec.zl (z x1 x2 r0 b s) := by
  pointwise [val_main_v34, val_main_v33, val_main_v32, val_main_cst_5, Spec.zl]
  rw [lse_eq]

/-- The reference's weighted gradients. -/
theorem r_eq (b : Fin 3) (s : Fin 640) : val_main_v39 x1 x2 x3 x4 r0 (ix2 b s) =
    Spec.r (z x1 x2 r0 b s) (fun k => x3 (ix3 b s k)) (fun k => x4 (ix3 b s k)) := by
  pointwise [val_main_v39, val_main_v38, val_main_cst_8, Spec.r]
  simp only [p_eq, dp_eq]
  exact Finset.sum_congr rfl fun e _ => mul_comm _ _

/-- The reference's gradients of the logits. -/
theorem dl_eq (b : Fin 3) (s : Fin 640) (e : Fin 160) : val_main_v56 x1 x2 x3 x4 r0 (ix3 b s e) =
    Spec.dl (z x1 x2 r0 b s) (f x3) (fun k => x3 (ix3 b s k)) (fun k => x4 (ix3 b s k)) e := by
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_cst_9, val_main_cst_10, Spec.dl]
  rw [p_eq, f_eq, g_eq, lse_eq, dp_eq, r_eq]

variable (m : (ℓ : Loc nD τ sig) → Buf (Elt Ideal) ℓ) (c : Dev nD)

/-- The codes. -/
abbrev a0 : Vec Ideal S3x640x12288 .fp8e4m3 := m (c.tc.loc main_arg0)

/-- The cast's blocks lie at the origin. -/
theorem index_all : ∀ t : Fin cfg0.N, win0_0.index t = ![0, 0, 0] ∧ win0_1.index t = ![0, 0, 0] := by decide +kernel

/-- The cast's one block is its argument. -/
theorem blk0 (t : Fin cfg0.N) (y : S3x640x12288.Idx) : (iblk m c 0 t : Vec Ideal S3x640x12288 .fp8e4m3) y = a0 m c y := by
  unfold iblk
  blk_simp
  erw [V_main_arg0]
  refine congrArg _ (funext fun a => Fin.ext ?_)
  fin_cases a <;> blk_simp [(index_all t).1] <;> rfl

/-- What the cast's one point leaves. -/
theorem out_eq (x : Vec Ideal S3x640x12288 .fp8e4m3) : out0_1 x = (fun y => x y : Vec Ideal S3x640x12288 .bf16) := by
  unfold out0_1
  rw [View.canon_cons_unit_lit]
  · rw [View.ld_unit_lit]
    · rfl
    · intro a
      fin_cases a <;> rfl
  · intro a
    fin_cases a <;> rfl

/-- Ideally the cast leaves its argument. -/
theorem cast_eq : Value.reg_main_v0 m c = (fun y => a0 m c y : Vec Ideal S3x640x12288 .bf16) := by
  unfold Value.reg_main_v0
  refine (dats m 0 c).arrAt_eq_of_covers 1 _ (by decide +kernel) fun t hf y => ?_
  blk_simp
  rw [after0_1, out_eq]
  refine (blk0 m c t y).trans ?_
  refine congrArg _ (funext fun a => Fin.ext ?_)
  fin_cases a <;> blk_simp [(index_all t).2] <;> rfl

/-- The scales. -/
abbrev a1 : Vec Ideal S3x640 .f32 := m (c.tc.loc main_arg1)
/-- The router's weights. -/
abbrev a2 : Vec Ideal S12288x160 .bf16 := m (c.tc.loc main_arg2)
/-- The chosen experts. -/
abbrev a3 : Vec Ideal S3x640x6 .i32 := m (c.tc.loc main_arg3)
/-- The gates' gradients. -/
abbrev a4 : Vec Ideal S3x640x6 .f32 := m (c.tc.loc main_arg4)
/-- The codes after the cast. -/
abbrev x0 : Vec Ideal S3x640x12288 .bf16 := fun y => a0 m c y

/-- Every run ends with the results at their stages over the arguments, and the arguments unchanged. -/
theorem run (ρ : Dev nD → PrngReg) : θ_run defs (onTc (τ := τ) (main (F := Ideal))) ⟨m, fun _ => 0, ρ⟩ fun r => ∀ c : Dev nD,
      r.2.mem (c.tc.loc main_v31) = val_main_v31 (a1 m c) (a2 m c) (a3 m c) (x0 m c)
      ∧ r.2.mem (c.tc.loc main_v34) = val_main_v34 (a1 m c) (a2 m c) (x0 m c)
      ∧ r.2.mem (c.tc.loc main_v25) = val_main_v25 (a1 m c) (a2 m c) (x0 m c)
      ∧ r.2.mem (c.tc.loc main_v18) = val_main_v18 (a1 m c) (a2 m c) (x0 m c)
      ∧ r.2.mem (c.tc.loc main_v56) = val_main_v56 (a1 m c) (a2 m c) (a3 m c) (a4 m c) (x0 m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) := by
  refine (θ_run defs _ _).mono (fun r h c => ?_) (Value.run m ρ)
  obtain ⟨h1, h2, h3, h4, h5, hargs⟩ := h c
  rw [val_main_v31_eq] at h1
  rw [val_main_v34_eq] at h2
  rw [val_main_v25_eq] at h3
  rw [val_main_v18_eq] at h4
  rw [val_main_v56_eq] at h5
  rw [Value.exit_main_arg1, Value.exit_main_arg2, Value.exit_main_v0, cast_eq] at h1 h2 h3 h4 h5
  rw [Value.exit_main_arg3] at h1 h5
  rw [Value.exit_main_arg4] at h5
  exact ⟨h1, h2, h3, h4, h5, hargs⟩

end Cert.ReferenceIdeal.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_distinct_experts
public import proofs.«01_k».proof.Proof.Results
public import proofs.«01_k».proof.Proof.Ref
public import Idealize.ShloMosaic.Adequacy
public import Idealize.ShloMosaic.Init

@[expose] public section

noncomputable section

namespace Cert.Proof

open Idealize.ShloMosaic Idealize.SL.Sem Cert.Kernel

open Idealize.ShloMosaic.Pointwise

/-- The precondition says that the experts chosen for a token are distinct. -/
theorem distinct (x0 : FVec Ideal Pre_distinct_experts.S3x640x12288 .fp8e4m3) (x1 : FVec Ideal Pre_distinct_experts.S3x640 .f32)
    (x2 : FVec Ideal Pre_distinct_experts.S12288x160 .bf16) (x3 : IVec Pre_distinct_experts.S3x640x6 32)
    (x4 : FVec Ideal Pre_distinct_experts.S3x640x6 .f32) (h : Pre_distinct_experts.fn x0 x1 x2 x3 x4 = fun _ => 1#1)
    (b : Fin 3) (s : Fin 640) (i j : Fin 6) : i = j ∨ x3 (ix3 b s i) ≠ x3 (ix3 b s j) := by
  have h' := congrFun h (ix4 b s i j)
  revert h'
  pointwise [Pre_distinct_experts.fn]
  intro h'
  by_contra hc
  obtain ⟨hne, heq⟩ := not_or.mp hc
  have hij : (BitVec.ofNat 32 i.val == BitVec.ofNat 32 j.val) = false :=
    (by decide : ∀ i j : Fin 6, ¬i = j → (BitVec.ofNat 32 i.val == BitVec.ofNat 32 j.val) = false) i j hne
  rw [not_not.mp heq] at h'
  simp [IntOp.ori, IntOp.cmpi, hij] at h'

section Values

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two programs are launched on the same arguments. -/
def Agree (c : Dev KernelIdeal.nD) : Prop :=
  ReferenceIdeal.Ref.a0 m' c = KernelIdeal.Arrays.a0 m c ∧ ReferenceIdeal.Ref.a1 m' c = KernelIdeal.Arrays.a1 m c
    ∧ ReferenceIdeal.Ref.a2 m' c = KernelIdeal.Arrays.a2 m c ∧ ReferenceIdeal.Ref.a3 m' c = KernelIdeal.Arrays.a3 m c
    ∧ ReferenceIdeal.Ref.a4 m' c = KernelIdeal.Arrays.a4 m c

variable {m m'} {c : Dev KernelIdeal.nD} (h : Agree m m' c)
include h

/-- On the same arguments the two programs have the same logits. -/
theorem z_agree (b : Fin 3) (s : Fin 640) :
    ReferenceIdeal.Ref.z (ReferenceIdeal.Ref.a1 m' c) (ReferenceIdeal.Ref.a2 m' c) (ReferenceIdeal.Ref.x0 m' c) b s = KernelIdeal.Arrays.zS m c b s := by
  obtain ⟨h0, h1, h2, -, -⟩ := h
  unfold ReferenceIdeal.Ref.z KernelIdeal.Arrays.zS ReferenceIdeal.Ref.x0
  rw [h0, h1, h2]

/-- On the same arguments the two programs have the same loads. -/
theorem f_agree : ReferenceIdeal.Ref.f (ReferenceIdeal.Ref.a3 m' c) = KernelIdeal.Arrays.fS m c := by
  obtain ⟨-, -, -, h3, -⟩ := h
  unfold ReferenceIdeal.Ref.f KernelIdeal.Arrays.fS
  rw [h3]

end Values

/-- Two arrays of one number per token are equal when they are so at every token. -/
theorem ext_tokens {x y : Vec Ideal KernelIdeal.S3x640 .f32} (h : ∀ b s, x (ix2 b s) = y (ix2 b s)) : x = y := by
  funext i
  idx_vars i
  exact h _ _

/-- Two arrays of one number per expert are equal when they are so at every expert. -/
theorem ext_experts {x y : Vec Ideal KernelIdeal.S160 .f32} (h : ∀ e, x (ix1 e) = y (ix1 e)) : x = y := by
  funext i
  idx_vars i
  exact h _

/-- Two arrays of one number per token and expert are equal when they are so at each. -/
theorem ext_both {x y : Vec Ideal KernelIdeal.S3x640x160 .f32} (h : ∀ b s e, x (ix3 b s e) = y (ix3 b s e)) : x = y := by
  funext i
  idx_vars i
  exact h _ _ _

/-- The kernel and the reference agree on all five results. -/
theorem agree : algebraic_KernelIdeal_ReferenceIdeal_pre_distinct_experts := by
  intro m g m' g' hpre hagree
  refine ⟨_, _, _, _, _, Cert.KernelIdeal.Results.run m g, ?_⟩
  refine (θ_run _ _ _).mono (fun r h c => ?_) (Cert.ReferenceIdeal.Ref.run m' g')
  obtain ⟨h1, h2, h3, h4, h5, hargs⟩ := h c
  have hA : Agree m m' c := hagree c
  have hd := distinct _ _ _ _ _ (hpre c)
  refine ⟨h1.trans (ext_tokens fun b s => ?_), h2.trans (ext_tokens fun b s => ?_), h3.trans (ext_experts fun e => ?_),
    h4.trans (ext_tokens fun b s => ?_), h5.trans (ext_both fun b s e => ?_), hargs⟩
  · rw [ReferenceIdeal.Ref.aux_eq, z_agree hA, f_agree hA]
    exact (KernelIdeal.Results.res5 m c b s).symm
  · rw [ReferenceIdeal.Ref.zl_eq, z_agree hA]
    exact (KernelIdeal.Results.res6 m c b s).symm
  · rw [ReferenceIdeal.Ref.P_eq]
    simp only [z_agree hA]
    exact (KernelIdeal.Results.res7 m c e).symm
  · rw [ReferenceIdeal.Ref.lse_eq, z_agree hA]
    exact (KernelIdeal.Results.res8 m c b s).symm
  · rw [ReferenceIdeal.Ref.dl_eq, z_agree hA, f_agree hA, hA.2.2.2.1, hA.2.2.2.2]
    exact (KernelIdeal.Results.res9 m c hd b s e).symm

/-- The certificate. -/
theorem claim : Cert.Claim := ⟨Cert.Kernel.Gen.facts, Cert.KernelIdeal.Gen.facts, Cert.ReferenceIdeal.Gen.facts, Cert.Pre_distinct_experts.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, agree⟩

end Cert.Proof

end
